-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1x4096x512 : Shape := ⟨4, ![2, 1, 4096, 512]⟩
abbrev S2x1x4096x4096 : Shape := ⟨4, ![2, 1, 4096, 4096]⟩
abbrev S1x4096x4096 : Shape := ⟨3, ![1, 4096, 4096]⟩
abbrev S1 : Shape := ⟨1, ![1]⟩
abbrev S_ : Shape := ⟨0, ![]⟩
abbrev S1x4096 : Shape := ⟨2, ![1, 4096]⟩
abbrev S2x512x128 : Shape := ⟨3, ![2, 512, 128]⟩
abbrev S2x128 : Shape := ⟨2, ![2, 128]⟩
abbrev S2x1x32x128 : Shape := ⟨4, ![2, 1, 32, 128]⟩
abbrev S1x4096x128 : Shape := ⟨3, ![1, 4096, 128]⟩
abbrev S128x128 : Shape := ⟨2, ![128, 128]⟩

class Facts : Prop where
  bcast_S_S2x1x4096x512 : S_.BroadcastsInDim S2x1x4096x512 (![] : Fin 0 → Fin S2x1x4096x512.rank)
  reducesTo_S2x1x4096x512_S_d0_1_2_3 : S2x1x4096x512.ReducesTo [0, 1, 2, 3] S_
  h_S_ : 0 < S_.numel
  bcast_S_S2x1x4096x4096 : S_.BroadcastsInDim S2x1x4096x4096 (![] : Fin 0 → Fin S2x1x4096x4096.rank)
  reducesTo_S2x1x4096x4096_S_d0_1_2_3 : S2x1x4096x4096.ReducesTo [0, 1, 2, 3] S_
  bcast_S_S2x512x128 : S_.BroadcastsInDim S2x512x128 (![] : Fin 0 → Fin S2x512x128.rank)
  reducesTo_S2x512x128_S_d0_1_2 : S2x512x128.ReducesTo [0, 1, 2] S_
  bcast_S_S2x128 : S_.BroadcastsInDim S2x128 (![] : Fin 0 → Fin S2x128.rank)
  reducesTo_S2x128_S_d0_1 : S2x128.ReducesTo [0, 1] S_
  bcast_S_S2x1x32x128 : S_.BroadcastsInDim S2x1x32x128 (![] : Fin 0 → Fin S2x1x32x128.rank)
  reducesTo_S2x1x32x128_S_d0_1_2_3 : S2x1x32x128.ReducesTo [0, 1, 2, 3] S_

variable [Facts]

def fn_part1 {F : FTy → Type} [FloatOps F] (main_arg12 : FVec F S2x1x32x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x1x32x128 .f32 := Host.absf main_arg12
  let main_cst_6 : FVec F S_ .f32 := constant S_ .f32 0x7F800000#32
  let main_v20 : FVec F S2x1x32x128 .f32 := broadcastInDim S2x1x32x128 ![] bcast_S_S2x1x32x128 main_cst_6
  let main_v21 : IVec S2x1x32x128 1 := cmpf .olt main_v19 main_v20
  let main_c_7 : IVec S_ 1 := constantI S_ 1 1#1
  let main_v22 : IVec S_ 1 := (fun x v => Host.reduce IntOp.andi x v reducesTo_S2x1x32x128_S_d0_1_2_3 h_S_) main_v21 main_c_7
  let main_v23 : IVec S_ 1 := andi main_v18 main_v22
  main_v23

def fn {F : FTy → Type} [FloatOps F] (main_arg0 : FVec F S2x1x4096x512 .f32) (main_arg1 : FVec F S2x1x4096x4096 .f32) (main_arg2 : FVec F S2x1x4096x512 .f32) (main_arg3 : FVec F S1x4096x4096 .f32) (main_arg4 : FVec F S1 .f32) (main_arg5 : IVec S_ 32) (main_arg6 : IVec S_ 32) (main_arg7 : FVec F S1x4096 .f32) (main_arg8 : FVec F S1x4096 .f32) (main_arg9 : FVec F S1x4096 .f32) (main_arg10 : FVec F S2x512x128 .f32) (main_arg11 : FVec F S2x128 .f32) (main_arg12 : FVec F S2x1x32x128 .f32) (main_arg13 : FVec F S1x4096x128 .f32) (main_arg14 : FVec F S128x128 .f32) : IVec S_ 1 :=
  let main_v0 : FVec F S2x1x4096x512 .f32 := Host.absf main_arg0
  let main_cst : FVec F S_ .f32 := constant S_ .f32 0x7F800000#32
  let main_v1 : FVec F S2x1x4096x512 .f32 := broadcastInDim S2x1x4096x512 ![] bcast_S_S2x1x4096x512 main_cst
  let main_v2 : IVec S2x1x4096x512 1 := cmpf .olt main_v0 main_v1
  let main_c : IVec S_ 1 := constantI S_ 1 1#1
  let main_v3 : IVec S_ 1 := (fun x v => Host.reduce IntOp.andi x v reducesTo_S2x1x4096x512_S_d0_1_2_3 h_S_) main_v2 main_c
  let main_v4 : FVec F S2x1x4096x4096 .f32 := Host.absf main_arg1
  let main_cst_0 : FVec F S_ .f32 := constant S_ .f32 0x7F800000#32
  let main_v5 : FVec F S2x1x4096x4096 .f32 := broadcastInDim S2x1x4096x4096 ![] bcast_S_S2x1x4096x4096 main_cst_0
  let main_v6 : IVec S2x1x4096x4096 1 := cmpf .olt main_v4 main_v5
  let main_c_1 : IVec S_ 1 := constantI S_ 1 1#1
  let main_v7 : IVec S_ 1 := (fun x v => Host.reduce IntOp.andi x v reducesTo_S2x1x4096x4096_S_d0_1_2_3 h_S_) main_v6 main_c_1
  let main_v8 : IVec S_ 1 := andi main_v3 main_v7
  let main_v9 : FVec F S2x512x128 .f32 := Host.absf main_arg10
  let main_cst_2 : FVec F S_ .f32 := constant S_ .f32 0x7F800000#32
  let main_v10 : FVec F S2x512x128 .f32 := broadcastInDim S2x512x128 ![] bcast_S_S2x512x128 main_cst_2
  let main_v11 : IVec S2x512x128 1 := cmpf .olt main_v9 main_v10
  let main_c_3 : IVec S_ 1 := constantI S_ 1 1#1
  let main_v12 : IVec S_ 1 := (fun x v => Host.reduce IntOp.andi x v reducesTo_S2x512x128_S_d0_1_2 h_S_) main_v11 main_c_3
  let main_v13 : IVec S_ 1 := andi main_v8 main_v12
  let main_v14 : FVec F S2x128 .f32 := Host.absf main_arg11
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg12 main_v13 main_v16
-- ==== Kernel.lean ====
abbrev S2x1x4096x512 : Shape := ⟨4, ![2, 1, 4096, 512]⟩
abbrev S2x1x4096x4096 : Shape := ⟨4, ![2, 1, 4096, 4096]⟩
abbrev S1x4096x4096 : Shape := ⟨3, ![1, 4096, 4096]⟩
abbrev S1 : Shape := ⟨1, ![1]⟩
abbrev S_ : Shape := ⟨0, ![]⟩
abbrev S1x4096 : Shape := ⟨2, ![1, 4096]⟩
abbrev S2x512x128 : Shape := ⟨3, ![2, 512, 128]⟩
abbrev S2x128 : Shape := ⟨2, ![2, 128]⟩
abbrev S2x1x32x128 : Shape := ⟨4, ![2, 1, 32, 128]⟩
abbrev S1x4096x128 : Shape := ⟨3, ![1, 4096, 128]⟩
abbrev S128x128 : Shape := ⟨2, ![128, 128]⟩
abbrev S4096 : Shape := ⟨1, ![4096]⟩
abbrev S4096x1 : Shape := ⟨2, ![4096, 1]⟩
abbrev S4096x2 : Shape := ⟨2, ![4096, 2]⟩
abbrev S1x4096x2 : Shape := ⟨3, ![1, 4096, 2]⟩
abbrev S2x1x128 : Shape := ⟨3, ![2, 1, 128]⟩
abbrev S3x4096x32 : Shape := ⟨3, ![3, 4096, 32]⟩
abbrev S3x4096x2 : Shape := ⟨3, ![3, 4096, 2]⟩
abbrev S1x1 : Shape := ⟨2, ![1, 1]⟩
abbrev S2x4096x1 : Shape := ⟨3, ![2, 4096, 1]⟩
abbrev S2x4096 : Shape := ⟨2, ![2, 4096]⟩
abbrev S2x8192 : Shape := ⟨2, ![2, 8192]⟩
abbrev S2x1x8192 : Shape := ⟨3, ![2, 1, 8192]⟩
abbrev S1x1x512x512 : Shape := ⟨4, ![1, 1, 512, 512]⟩
abbrev S1x1x512x4096 : Shape := ⟨4, ![1, 1, 512, 4096]⟩
abbrev S1x512x128 : Shape := ⟨3, ![1, 512, 128]⟩
abbrev S1x1x128 : Shape := ⟨3, ![1, 1, 128]⟩
abbrev S1x1x32x128 : Shape := ⟨4, ![1, 1, 32, 128]⟩
abbrev S1x512x2 : Shape := ⟨3, ![1, 512, 2]⟩
abbrev S1x512x32 : Shape := ⟨3, ![1, 512, 32]⟩
abbrev S2x4096x256 : Shape := ⟨3, ![2, 4096, 256]⟩
abbrev S4096x128 : Shape := ⟨2, ![4096, 128]⟩
abbrev S512x128 : Shape := ⟨2, ![512, 128]⟩
abbrev S128 : Shape := ⟨1, ![128]⟩
abbrev S512x512 : Shape := ⟨2, ![512, 512]⟩
abbrev S1x128 : Shape := ⟨2, ![1, 128]⟩
abbrev S512x256 : Shape := ⟨2, ![512, 256]⟩
abbrev S1x512x256 : Shape := ⟨3, ![1, 512, 256]⟩
abbrev S512x4096 : Shape := ⟨2, ![512, 4096]⟩
abbrev S1x4096x256 : Shape := ⟨3, ![1, 4096, 256]⟩
abbrev S4096x256 : Shape := ⟨2, ![4096, 256]⟩
abbrev S32x128 : Shape := ⟨2, ![32, 128]⟩
abbrev S512x32 : Shape := ⟨2, ![512, 32]⟩
abbrev S512 : Shape := ⟨1, ![512]⟩
abbrev S512x1 : Shape := ⟨2, ![512, 1]⟩
abbrev S512x2 : Shape := ⟨2, ![512, 2]⟩
abbrev S1x512x1 : Shape := ⟨3, ![1, 512, 1]⟩
abbrev S1x1x1 : Shape := ⟨3, ![1, 1, 1]⟩
abbrev S1x1024x4096 : Shape := ⟨3, ![1, 1024, 4096]⟩
abbrev S64x4096 : Shape := ⟨2, ![64, 4096]⟩
abbrev S1024x4096 : Shape := ⟨2, ![1024, 4096]⟩
abbrev S1024 : Shape := ⟨1, ![1024]⟩
abbrev S1024x1 : Shape := ⟨2, ![1024, 1]⟩
abbrev S1x1024x1024 : Shape := ⟨3, ![1, 1024, 1024]⟩
abbrev S1024x1024 : Shape := ⟨2, ![1024, 1024]⟩
abbrev S1x1024x32 : Shape := ⟨3, ![1, 1024, 32]⟩
abbrev S1024x32 : Shape := ⟨2, ![1024, 32]⟩
abbrev S32x4096 : Shape := ⟨2, ![32, 4096]⟩
abbrev S32x1024 : Shape := ⟨2, ![32, 1024]⟩
abbrev S32x32 : Shape := ⟨2, ![32, 32]⟩
abbrev S1x4096x32 : Shape := ⟨3, ![1, 4096, 32]⟩
abbrev S4096x32 : Shape := ⟨2, ![4096, 32]⟩
abbrev S1x32x32 : Shape := ⟨3, ![1, 32, 32]⟩

abbrev nBuf : Space → Nat
  | .hbm => 36
  | .vmem => 27
  | .smem => 3
  | _ => 0

abbrev bufTy : (tb : Table) → Fin (tcTables nBuf tb) → BufTy
  | .hbm, ⟨0, _⟩ => ⟨S2x1x4096x512, .f32⟩
  | .hbm, ⟨1, _⟩ => ⟨S2x1x4096x4096, .f32⟩
  | .hbm, ⟨2, _⟩ => ⟨S2x1x4096x512, .f32⟩
  | .hbm, ⟨3, _⟩ => ⟨S1x4096x4096, .f32⟩
  | .hbm, ⟨4, _⟩ => ⟨S1, .f32⟩
  | .hbm, ⟨5, _⟩ => ⟨S_, .i32⟩
  | .hbm, ⟨6, _⟩ => ⟨S_, .i32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S2x512x128, .f32⟩
  | .hbm, ⟨11, _⟩ => ⟨S2x128, .f32⟩
  | .hbm, ⟨12, _⟩ => ⟨S2x1x32x128, .f32⟩
  | .hbm, ⟨13, _⟩ => ⟨S1x4096x128, .f32⟩
  | .hbm, ⟨14, _⟩ => ⟨S128x128, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x2, .f32⟩
  | .hbm, ⟨20, _⟩ => ⟨S1x4096x2, .f32⟩
  | .hbm, ⟨21, _⟩ => ⟨S2x1x128, .f32⟩
  | .hbm, ⟨22, _⟩ => ⟨S3x4096x32, .bf16⟩
  | .hbm, ⟨23, _⟩ => ⟨S3x4096x2, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S2x4096x1, .f32⟩
  | .hbm, ⟨28, _⟩ => ⟨S2x4096, .f32⟩
  | .hbm, ⟨29, _⟩ => ⟨S2x4096x1, .f32⟩
  | .hbm, ⟨30, _⟩ => ⟨S2x4096, .f32⟩
  | .hbm, ⟨31, _⟩ => ⟨S2x8192, .f32⟩
  | .hbm, ⟨32, _⟩ => ⟨S2x1x8192, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x4096, .f32⟩
  | .local _ .vmem, ⟨5, _⟩ => ⟨S1x1x512x4096, .f32⟩
  | .local _ .vmem, ⟨6, _⟩ => ⟨S1x512x128, .f32⟩
  | .local _ .vmem, ⟨7, _⟩ => ⟨S1x512x128, .f32⟩
  | .local _ .vmem, ⟨8, _⟩ => ⟨S1x1x128, .f32⟩
  | .local _ .vmem, ⟨9, _⟩ => ⟨S1x1x128, .f32⟩
  | .local _ .vmem, ⟨10, _⟩ => ⟨S1x1x32x128, .f32⟩
  | .local _ .vmem, ⟨11, _⟩ => ⟨S1x1x32x128, .f32⟩
  | .local _ .vmem, ⟨12, _⟩ => ⟨S128x128, .f32⟩
  | .local _ .vmem, ⟨13, _⟩ => ⟨S1x512x2, .f32⟩
  | .local _ .vmem, ⟨14, _⟩ => ⟨S1x512x2, .f32⟩
  | .local _ .vmem, ⟨15, _⟩ => ⟨S1x512x128, .f32⟩
  | .local _ .vmem, ⟨16, _⟩ => ⟨S1x512x128, .f32⟩
  | .local _ .vmem, ⟨17, _⟩ => ⟨S1x512x32, .bf16⟩
  | .local _ .vmem, ⟨18, _⟩ => ⟨S1x512x32, .bf16⟩
  | .local _ .vmem, ⟨19, _⟩ => ⟨S1x512x2, .f32⟩
  | .local _ .vmem, ⟨20, _⟩ => ⟨S1x512x2, .f32⟩
  | .local _ .vmem, ⟨21, _⟩ => ⟨S2x4096x256, .f32⟩
  | .local _ .vmem, ⟨22, _⟩ => ⟨S4096x128, .f32⟩
  | .local _ .vmem, ⟨23, _⟩ => ⟨S1x1024x4096, .f32⟩
  | .local _ .vmem, ⟨24, _⟩ => ⟨S1x1024x4096, .f32⟩
  | .local _ .vmem, ⟨25, _⟩ => ⟨S3x4096x32, .bf16⟩
  | .local _ .vmem, ⟨26, _⟩ => ⟨S64x4096, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2x1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7_0 : Ref sig .tc := ⟨.hbm, 22, rfl⟩
abbrev main_call0_v7_1 : Ref sig .tc := ⟨.hbm, 23, rfl⟩
abbrev main_call0_v7_2 : Ref sig .tc := ⟨.hbm, 24, rfl⟩
abbrev main_call0_v7_3 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_scratch0 : Ref sig .tc := ⟨.vmem, 26, rfl⟩
abbrev cc0_stg11_0 : Ref sig .tc := ⟨.smem, 0, rfl⟩
abbrev cc0_stg12_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc1_sem0_0 : DmaSem sig := 23
abbrev cc1_sem0_1 : DmaSem sig := 24
abbrev cc1_sem1_0 : DmaSem sig := 25
abbrev cc1_sem2_0 : DmaSem sig := 26

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c1_i32 : BitVec 32 := 1#32
  let v1 : BitVec 1 := Scalar.cmpi .sle arg0 c1_i32
  let v2 : BitVec 32 := Scalar.extui v1
  let c0_i32 : BitVec 32 := 0#32
  let v3 : BitVec 1 := Scalar.cmpi .ne v2 c0_i32
  v3

def k0_off1 (i : grid0.Coords) : Fin 3 → Nat :=
  let arg0 : BitVec 32 := BitVec.ofNat 32 (i 0).val
  let c1_i32_16 : BitVec 32 := 1#32
  let v23 : BitVec 32 := Scalar.minsi arg0 c1_i32_16
  let v26 : Index := Scalar.indexCast v23
  let arg1 : BitVec 32 := BitVec.ofNat 32 (i 1).val
  let c512_i32 : BitVec 32 := 512#32
  let v0 : BitVec 32 := Scalar.muli arg1 c512_i32
  let v27 : Index := Scalar.indexCast v0
  let c0_17 : Index := 0#32
  ![v26.toNat, v27.toNat, 0]
def k0_cond2 (i : grid0.Coords) : BitVec 1 :=
  let arg0 : BitVec 32 := BitVec.ofNat 32 (i 0).val
  let c1_i32_0 : BitVec 32 := 1#32
  let v4 : BitVec 1 := Scalar.cmpi .sge arg0 c1_i32_0
  let v5 : BitVec 32 := Scalar.extui v4
  let c0_i32_1 : BitVec 32 := 0#32
  let v6 : BitVec 1 := Scalar.cmpi .ne v5 c0_i32_1
  v6

def k0_off2 (i : grid0.Coords) : Fin 3 → Nat :=
  let arg0 : BitVec 32 := BitVec.ofNat 32 (i 0).val
  let c1_i32_2 : BitVec 32 := 1#32
  let v7 : BitVec 32 := Scalar.subi arg0 c1_i32_2
  let v10 : Index := Scalar.indexCast v7
  let c0_6 : Index := 0#32
  let c0_7 : Index := 0#32
  ![v10.toNat, 0, 0]
def k0_cond5 (i : grid0.Coords) : BitVec 1 :=
  let arg0 : BitVec 32 := BitVec.ofNat 32 (i 0).val
  let c1_i32_46 : BitVec 32 := 1#32
  let v89 : BitVec 1 := Scalar.cmpi .eq arg0 c1_i32_46
  let v90 : BitVec 32 := Scalar.extui v89
  let c0_i32_47 : BitVec 32 := 0#32
  let v91 : BitVec 1 := Scalar.cmpi .ne v90 c0_i32_47
  v91

def k0_off3 (i : grid0.Coords) : Fin 2 → Nat :=
  let arg1 : BitVec 32 := BitVec.ofNat 32 (i 1).val
  let c512_i32 : BitVec 32 := 512#32
  let v0 : BitVec 32 := Scalar.muli arg1 c512_i32
  let v95 : Index := Scalar.indexCast v0
  let c0_49 : Index := 0#32
  ![v95.toNat, 0]
def k0_cond6 (i : grid0.Coords) : BitVec 1 :=
  let arg0 : BitVec 32 := BitVec.ofNat 32 (i 0).val
  let c2_i32 : BitVec 32 := 2#32
  let v92 : BitVec 1 := Scalar.cmpi .eq arg0 c2_i32
  let v93 : BitVec 32 := Scalar.extui v92
  let c0_i32_48 : BitVec 32 := 0#32
  let v94 : BitVec 1 := Scalar.cmpi .ne v93 c0_i32_48
  v94

def k0_off4 (i : grid0.Coords) : Fin 2 → Nat :=
  let arg1 : BitVec 32 := BitVec.ofNat 32 (i 1).val
  let c512_i32 : BitVec 32 := 512#32
  let v0 : BitVec 32 := Scalar.muli arg1 c512_i32
  let v95 : Index := Scalar.indexCast v0
  let c0_49 : Index := 0#32
  ![v95.toNat, 0]
def k0_cond3 (i : grid0.Coords) : BitVec 1 :=
  let arg0 : BitVec 32 := BitVec.ofNat 32 (i 0).val
  let c1_i32_40 : BitVec 32 := 1#32
  let v79 : BitVec 1 := Scalar.cmpi .eq arg0 c1_i32_40
  let arg1 : BitVec 32 := BitVec.ofNat 32 (i 1).val
  let c0_i32_41 : BitVec 32 := 0#32
  let v80 : BitVec 1 := Scalar.cmpi .eq arg1 c0_i32_41
  let v81 : BitVec 1 := Scalar.andi v79 v80
  let v82 : BitVec 32 := Scalar.extui v81
  let c0_i32_42 : BitVec 32 := 0#32
  let v83 : BitVec 1 := Scalar.cmpi .ne v82 c0_i32_42
  v83

def k0_cond4 (i : grid0.Coords) : BitVec 1 :=
  let arg0 : BitVec 32 := BitVec.ofNat 32 (i 0).val
  let c1_i32_43 : BitVec 32 := 1#32
  let v84 : BitVec 1 := Scalar.cmpi .sgt arg0 c1_i32_43
  let arg1 : BitVec 32 := BitVec.ofNat 32 (i 1).val
  let c0_i32_44 : BitVec 32 := 0#32
  let v85 : BitVec 1 := Scalar.cmpi .sgt arg1 c0_i32_44
  let v86 : BitVec 1 := Scalar.ori v84 v85
  let v87 : BitVec 32 := Scalar.extui v86
  let c0_i32_45 : BitVec 32 := 0#32
  let v88 : BitVec 1 := Scalar.cmpi .ne v87 c0_i32_45
  v88

def k0_cond7 (i : grid0.Coords) : BitVec 1 :=
  let arg1 : BitVec 32 := BitVec.ofNat 32 (i 1).val
  let c0_i32_55 : BitVec 32 := 0#32
  let v108 : BitVec 1 := Scalar.cmpi .eq arg1 c0_i32_55
  let v109 : BitVec 32 := Scalar.extui v108
  let c0_i32_56 : BitVec 32 := 0#32
  let v110 : BitVec 1 := Scalar.cmpi .ne v109 c0_i32_56
  v110

def k0_cond8 (i : grid0.Coords) : BitVec 1 :=
  let arg1 : BitVec 32 := BitVec.ofNat 32 (i 1).val
  let c0_i32_57 : BitVec 32 := 0#32
  let v111 : BitVec 1 := Scalar.cmpi .sgt arg1 c0_i32_57
  let v112 : BitVec 32 := Scalar.extui v111
  let c0_i32_58 : BitVec 32 := 0#32
  let v113 : BitVec 1 := Scalar.cmpi .ne v112 c0_i32_58
  v113

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .eq arg0 c2_i32
  let c7_i32 : BitVec 32 := 7#32
  let v2 : BitVec 32 := Scalar.select v1 c7_i32 arg1
  let c0_i32 : BitVec 32 := 0#32
  let c0_i32_0 : BitVec 32 := 0#32
  let c0_i32_1 : BitVec 32 := 0#32
  ![v0.toNat, c0_i32.toNat, v2.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c2_i32 : BitVec 32 := 2#32
  let v1 : BitVec 1 := Scalar.cmpi .eq arg0 c2_i32
  let c7_i32 : BitVec 32 := 7#32
  let v2 : BitVec 32 := Scalar.select v1 c7_i32 arg1
  let c0_i32 : BitVec 32 := 0#32
  let c0_i32_0 : BitVec 32 := 0#32
  let c0_i32_1 : BitVec 32 := 0#32
  ![v0.toNat, c0_i32.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  let c0_i32_4 : BitVec 32 := 0#32
  ![v1.toNat, c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![c0_i32_1.toNat, v1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c2_i32 : BitVec 32 := 2#32
  let v2 : BitVec 32 := Scalar.select v0 c2_i32 v1
  let c0_i32_0 : BitVec 32 := 0#32
  let c0_i32_1 : BitVec 32 := 0#32
  ![v2.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c2_i32 : BitVec 32 := 2#32
  let v2 : BitVec 32 := Scalar.select v0 c2_i32 v1
  let c0_i32_0 : BitVec 32 := 0#32
  let c0_i32_1 : BitVec 32 := 0#32
  ![v2.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x32 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev grid1 : Pipeline.Grid := ⟨1, ![4], ![false]⟩

def k1_off1 (i : grid1.Coords) : Fin 3 → Nat :=
  let c0_2 : Index := 0#32
  let c0_3 : Index := 0#32
  let arg0 : BitVec 32 := BitVec.ofNat 32 (i 0).val
  let c1024_i32 : BitVec 32 := 1024#32
  let v0 : BitVec 32 := Scalar.muli arg0 c1024_i32
  let v5 : Index := Scalar.indexCast v0
  ![0, 0, v5.toNat]
def k1_off2 (i : grid1.Coords) : Fin 3 → Nat :=
  let c0_6 : Index := 0#32
  let arg0 : BitVec 32 := BitVec.ofNat 32 (i 0).val
  let c1024_i32 : BitVec 32 := 1024#32
  let v0 : BitVec 32 := Scalar.muli arg0 c1024_i32
  let v22 : Index := Scalar.indexCast v0
  let c0_7 : Index := 0#32
  ![0, v22.toNat, 0]
def k1_off3 (i : grid1.Coords) : Fin 2 → Nat :=
  let c0_13 : Index := 0#32
  let arg0 : BitVec 32 := BitVec.ofNat 32 (i 0).val
  let c1024_i32 : BitVec 32 := 1024#32
  let v0 : BitVec 32 := Scalar.muli arg0 c1024_i32
  let v38 : Index := Scalar.indexCast v0
  ![0, v38.toNat]
def k1_off4 (i : grid1.Coords) : Fin 3 → Nat :=
  let c1 : Index := 1#32
  let arg0 : BitVec 32 := BitVec.ofNat 32 (i 0).val
  let c1024_i32 : BitVec 32 := 1024#32
  let v0 : BitVec 32 := Scalar.muli arg0 c1024_i32
  let v45 : Index := Scalar.indexCast v0
  let c0_15 : Index := 0#32
  ![1, v45.toNat, 0]
def k1_off5 (i : grid1.Coords) : Fin 2 → Nat :=
  let c32 : Index := 32#32
  let arg0 : BitVec 32 := BitVec.ofNat 32 (i 0).val
  let c1024_i32 : BitVec 32 := 1024#32
  let v0 : BitVec 32 := Scalar.muli arg0 c1024_i32
  let v61 : Index := Scalar.indexCast v0
  ![32, v61.toNat]
def k1_cond5 (i : grid1.Coords) : BitVec 1 :=
  let arg0 : BitVec 32 := BitVec.ofNat 32 (i 0).val
  let c3_i32 : BitVec 32 := 3#32
  let v68 : BitVec 1 := Scalar.cmpi .eq arg0 c3_i32
  let v69 : BitVec 32 := Scalar.extui v68
  let c0_i32_23 : BitVec 32 := 0#32
  let v70 : BitVec 1 := Scalar.cmpi .ne v69 c0_i32_23
  v70

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S2x1x4096x512 : Shape := ⟨4, ![2, 1, 4096, 512]⟩
abbrev S2x1x4096x4096 : Shape := ⟨4, ![2, 1, 4096, 4096]⟩
abbrev S1x4096x4096 : Shape := ⟨3, ![1, 4096, 4096]⟩
abbrev S1 : Shape := ⟨1, ![1]⟩
abbrev S_ : Shape := ⟨0, ![]⟩
abbrev S1x4096 : Shape := ⟨2, ![1, 4096]⟩
abbrev S2x512x128 : Shape := ⟨3, ![2, 512, 128]⟩
abbrev S2x128 : Shape := ⟨2, ![2, 128]⟩
abbrev S2x1x32x128 : Shape := ⟨4, ![2, 1, 32, 128]⟩
abbrev S1x4096x128 : Shape := ⟨3, ![1, 4096, 128]⟩
abbrev S128x128 : Shape := ⟨2, ![128, 128]⟩
abbrev S4096x4096 : Shape := ⟨2, ![4096, 4096]⟩
abbrev S4096 : Shape := ⟨1, ![4096]⟩
abbrev S4096x1 : Shape := ⟨2, ![4096, 1]⟩
abbrev S1x1x4096x512 : Shape := ⟨4, ![1, 1, 4096, 512]⟩
abbrev S1x4096x512 : Shape := ⟨3, ![1, 4096, 512]⟩
abbrev S1x1x4096x4096 : Shape := ⟨4, ![1, 1, 4096, 4096]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S1x1x128 : Shape := ⟨3, ![1, 1, 128]⟩
abbrev S4096x128 : Shape := ⟨2, ![4096, 128]⟩
abbrev S1x1x32x128 : Shape := ⟨4, ![1, 1, 32, 128]⟩
abbrev S1x32x128 : Shape := ⟨3, ![1, 32, 128]⟩
abbrev S32x128 : Shape := ⟨2, ![32, 128]⟩
abbrev S128x32 : Shape := ⟨2, ![128, 32]⟩
abbrev S4096x32 : Shape := ⟨2, ![4096, 32]⟩
abbrev S1x4096x32 : Shape := ⟨3, ![1, 4096, 32]⟩
abbrev S1x8192 : Shape := ⟨2, ![1, 8192]⟩
abbrev S32x4096 : Shape := ⟨2, ![32, 4096]⟩
abbrev S32x32 : Shape := ⟨2, ![32, 32]⟩
abbrev S2x4096x128 : Shape := ⟨3, ![2, 4096, 128]⟩
abbrev S1x1x8192 : Shape := ⟨3, ![1, 1, 8192]⟩
abbrev S2x1x8192 : Shape := ⟨3, ![2, 1, 8192]⟩

abbrev nBuf : Space → Nat
  | .hbm => 295
  | .vmem => 0
  | .smem => 0
  | _ => 0

abbrev hbmTy0_0 (i : Nat) : BufTy := match i % 128 with
  | 0 => ⟨S2x1x4096x512, .f32⟩
  | 1 => ⟨S2x1x4096x4096, .f32⟩
  | 2 => ⟨S2x1x4096x512, .f32⟩
  | 3 => ⟨S1x4096x4096, .f32⟩
  | 4 => ⟨S1, .f32⟩
  | 5 => ⟨S_, .i32⟩
  | 6 => ⟨S_, .i32⟩
  | 7 => ⟨S1x4096, .f32⟩
  | 8 => ⟨S1x4096, .f32⟩
  | 9 => ⟨S1x4096, .f32⟩
  | 10 => ⟨S2x512x128, .f32⟩
  | 11 => ⟨S2x128, .f32⟩
  | 12 => ⟨S2x1x32x128, .f32⟩
  | 13 => ⟨S1x4096x128, .f32⟩
  | 14 => ⟨S128x128, .f32⟩
  | 15 => ⟨S4096x4096, .f32⟩
  | 16 => ⟨S_, .f32⟩
  | 17 => ⟨S4096, .f32⟩
  | 18 => ⟨S_, .f32⟩
  | 19 => ⟨S4096, .f32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S4096x4096, .i1⟩
  | 26 => ⟨S4096x1, .f32⟩
  | 27 => ⟨S_, .f32⟩
  | 28 => ⟨S4096x4096, .f32⟩
  | 29 => ⟨S4096x4096, .f32⟩
  | 30 => ⟨S4096x4096, .f32⟩
  | 31 => ⟨S4096x4096, .f32⟩
  | 32 => ⟨S4096x4096, .f32⟩
  | 33 => ⟨S1x1x4096x512, .f32⟩
  | 34 => ⟨S1x4096x512, .f32⟩
  | 35 => ⟨S1x1x4096x4096, .f32⟩
  | 36 => ⟨S1x4096x4096, .f32⟩
  | 37 => ⟨S1x512x128, .f32⟩
  | 38 => ⟨S512x128, .f32⟩
  | 39 => ⟨S1x128, .f32⟩
  | 40 => ⟨S128, .f32⟩
  | 41 => ⟨S1x4096x128, .f32⟩
  | 42 => ⟨S1x1x128, .f32⟩
  | 43 => ⟨S1x4096x128, .f32⟩
  | 44 => ⟨S1x4096x128, .f32⟩
  | 45 => ⟨S4096x4096, .f32⟩
  | 46 => ⟨S4096x128, .f32⟩
  | 47 => ⟨S4096x128, .f32⟩
  | 48 => ⟨S1x4096x128, .f32⟩
  | 49 => ⟨S_, .f32⟩
  | 50 => ⟨S1x4096x128, .f32⟩
  | 51 => ⟨S1x4096x128, .f32⟩
  | 52 => ⟨S1x1x4096x512, .f32⟩
  | 53 => ⟨S1x4096x512, .f32⟩
  | 54 => ⟨S1x1x4096x4096, .f32⟩
  | 55 => ⟨S1x4096x4096, .f32⟩
  | 56 => ⟨S1x512x128, .f32⟩
  | 57 => ⟨S512x128, .f32⟩
  | 58 => ⟨S1x128, .f32⟩
  | 59 => ⟨S128, .f32⟩
  | 60 => ⟨S1x4096x128, .f32⟩
  | 61 => ⟨S1x1x128, .f32⟩
  | 62 => ⟨S1x4096x128, .f32⟩
  | 63 => ⟨S1x4096x128, .f32⟩
  | 64 => ⟨S4096x4096, .f32⟩
  | 65 => ⟨S4096x128, .f32⟩
  | 66 => ⟨S4096x128, .f32⟩
  | 67 => ⟨S1x4096x128, .f32⟩
  | 68 => ⟨S_, .f32⟩
  | 69 => ⟨S1x4096x128, .f32⟩
  | 70 => ⟨S1x4096x128, .f32⟩
  | 71 => ⟨S1x1x32x128, .f32⟩
  | 72 => ⟨S1x32x128, .f32⟩
  | 73 => ⟨S4096x128, .f32⟩
  | 74 => ⟨S32x128, .f32⟩
  | 75 => ⟨S128x32, .f32⟩
  | 76 => ⟨S4096x32, .f32⟩
  | 77 => ⟨S_, .f32⟩
  | 78 => ⟨S_, .f32⟩
  | 79 => ⟨S_, .f32⟩
  | 80 => ⟨S4096x32, .f32⟩
  | 81 => ⟨S4096x32, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1, .f32⟩
  | 88 => ⟨S4096x32, .f32⟩
  | 89 => ⟨S4096x32, .f32⟩
  | 90 => ⟨S4096x32, .f32⟩
  | 91 => ⟨S_, .f32⟩
  | 92 => ⟨S4096, .f32⟩
  | 93 => ⟨S4096x1, .f32⟩
  | 94 => ⟨S4096x32, .f32⟩
  | 95 => ⟨S4096x32, .f32⟩
  | 96 => ⟨S1x4096x32, .f32⟩
  | 97 => ⟨S4096x32, .f32⟩
  | 98 => ⟨S32x128, .f32⟩
  | 99 => ⟨S4096x128, .f32⟩
  | 100 => ⟨S1x4096x128, .f32⟩
  | 101 => ⟨S1x4096x128, .f32⟩
  | 102 => ⟨S1x4096x128, .f32⟩
  | 103 => ⟨S_, .f32⟩
  | 104 => ⟨S1x4096, .f32⟩
  | 105 => ⟨S1x4096, .f32⟩
  | 106 => ⟨S1x4096x128, .f32⟩
  | 107 => ⟨S1x4096x128, .f32⟩
  | 108 => ⟨S_, .f32⟩
  | 109 => ⟨S1x4096, .f32⟩
  | 110 => ⟨S1x4096, .f32⟩
  | 111 => ⟨S1x8192, .f32⟩
  | 112 => ⟨S4096x32, .f32⟩
  | 113 => ⟨S32x4096, .f32⟩
  | 114 => ⟨S32x4096, .f32⟩
  | 115 => ⟨S4096x32, .f32⟩
  | 116 => ⟨S32x32, .f32⟩
  | 117 => ⟨S32x32, .i32⟩
  | 118 => ⟨S32x32, .i32⟩
  | 119 => ⟨S_, .i32⟩
  | 120 => ⟨S32x32, .i32⟩
  | 121 => ⟨S32x32, .i32⟩
  | 122 => ⟨S32x32, .i1⟩
  | 123 => ⟨S_, .f32⟩
  | 124 => ⟨S32x32, .f32⟩
  | 125 => ⟨S32x32, .f32⟩
  | 126 => ⟨S_, .f32⟩
  | 127 => ⟨S_, .f32⟩
  | _ => ⟨S2x1x4096x512, .f32⟩

abbrev hbmTy0_1 (i : Nat) : BufTy := match i % 128 with
  | 0 => ⟨S_, .f32⟩
  | 1 => ⟨S_, .f32⟩
  | 2 => ⟨S4096x32, .f32⟩
  | 3 => ⟨S4096x32, .f32⟩
  | 4 => ⟨S4096x32, .f32⟩
  | 5 => ⟨S_, .f32⟩
  | 6 => ⟨S4096, .f32⟩
  | 7 => ⟨S4096, .f32⟩
  | 8 => ⟨S_, .f32⟩
  | 9 => ⟨S4096, .f32⟩
  | 10 => ⟨S4096, .f32⟩
  | 11 => ⟨S4096, .f32⟩
  | 12 => ⟨S4096, .f32⟩
  | 13 => ⟨S4096, .i1⟩
  | 14 => ⟨S4096, .f32⟩
  | 15 => ⟨S4096, .f32⟩
  | 16 => ⟨S4096, .f32⟩
  | 17 => ⟨S4096, .f32⟩
  | 18 => ⟨S4096, .f32⟩
  | 19 => ⟨S4096, .f32⟩
  | 20 => ⟨S4096, .f32⟩
  | 21 => ⟨S4096, .f32⟩
  | 22 => ⟨S4096, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1x1x4096x512, .f32⟩
  | 31 => ⟨S1x4096x512, .f32⟩
  | 32 => ⟨S1x1x4096x4096, .f32⟩
  | 33 => ⟨S1x4096x4096, .f32⟩
  | 34 => ⟨S1x512x128, .f32⟩
  | 35 => ⟨S512x128, .f32⟩
  | 36 => ⟨S1x128, .f32⟩
  | 37 => ⟨S128, .f32⟩
  | 38 => ⟨S1x4096x128, .f32⟩
  | 39 => ⟨S1x1x128, .f32⟩
  | 40 => ⟨S1x4096x128, .f32⟩
  | 41 => ⟨S1x4096x128, .f32⟩
  | 42 => ⟨S4096x4096, .f32⟩
  | 43 => ⟨S4096x128, .f32⟩
  | 44 => ⟨S4096x128, .f32⟩
  | 45 => ⟨S1x4096x128, .f32⟩
  | 46 => ⟨S_, .f32⟩
  | 47 => ⟨S1x4096x128, .f32⟩
  | 48 => ⟨S1x4096x128, .f32⟩
  | 49 => ⟨S1x1x4096x512, .f32⟩
  | 50 => ⟨S1x4096x512, .f32⟩
  | 51 => ⟨S1x1x4096x4096, .f32⟩
  | 52 => ⟨S1x4096x4096, .f32⟩
  | 53 => ⟨S1x512x128, .f32⟩
  | 54 => ⟨S512x128, .f32⟩
  | 55 => ⟨S1x128, .f32⟩
  | 56 => ⟨S128, .f32⟩
  | 57 => ⟨S1x4096x128, .f32⟩
  | 58 => ⟨S1x1x128, .f32⟩
  | 59 => ⟨S1x4096x128, .f32⟩
  | 60 => ⟨S1x4096x128, .f32⟩
  | 61 => ⟨S4096x4096, .f32⟩
  | 62 => ⟨S4096x128, .f32⟩
  | 63 => ⟨S4096x128, .f32⟩
  | 64 => ⟨S1x4096x128, .f32⟩
  | 65 => ⟨S_, .f32⟩
  | 66 => ⟨S1x4096x128, .f32⟩
  | 67 => ⟨S1x4096x128, .f32⟩
  | 68 => ⟨S1x1x32x128, .f32⟩
  | 69 => ⟨S1x32x128, .f32⟩
  | 70 => ⟨S4096x128, .f32⟩
  | 71 => ⟨S32x128, .f32⟩
  | 72 => ⟨S128x32, .f32⟩
  | 73 => ⟨S4096x32, .f32⟩
  | 74 => ⟨S_, .f32⟩
  | 75 => ⟨S_, .f32⟩
  | 76 => ⟨S_, .f32⟩
  | 77 => ⟨S4096x32, .f32⟩
  | 78 => ⟨S4096x32, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1, .f32⟩
  | 85 => ⟨S4096x32, .f32⟩
  | 86 => ⟨S4096x32, .f32⟩
  | 87 => ⟨S4096x32, .f32⟩
  | 88 => ⟨S_, .f32⟩
  | 89 => ⟨S4096, .f32⟩
  | 90 => ⟨S4096x1, .f32⟩
  | 91 => ⟨S4096x32, .f32⟩
  | 92 => ⟨S4096x32, .f32⟩
  | 93 => ⟨S1x4096x32, .f32⟩
  | 94 => ⟨S4096x32, .f32⟩
  | 95 => ⟨S32x128, .f32⟩
  | 96 => ⟨S4096x128, .f32⟩
  | 97 => ⟨S1x4096x128, .f32⟩
  | 98 => ⟨S1x4096x128, .f32⟩
  | 99 => ⟨S1x4096x128, .f32⟩
  | 100 => ⟨S_, .f32⟩
  | 101 => ⟨S1x4096, .f32⟩
  | 102 => ⟨S1x4096, .f32⟩
  | 103 => ⟨S1x4096x128, .f32⟩
  | 104 => ⟨S1x4096x128, .f32⟩
  | 105 => ⟨S_, .f32⟩
  | 106 => ⟨S1x4096, .f32⟩
  | 107 => ⟨S1x4096, .f32⟩
  | 108 => ⟨S1x8192, .f32⟩
  | 109 => ⟨S4096x32, .f32⟩
  | 110 => ⟨S32x4096, .f32⟩
  | 111 => ⟨S32x4096, .f32⟩
  | 112 => ⟨S4096x32, .f32⟩
  | 113 => ⟨S32x32, .f32⟩
  | 114 => ⟨S32x32, .i32⟩
  | 115 => ⟨S32x32, .i32⟩
  | 116 => ⟨S_, .i32⟩
  | 117 => ⟨S32x32, .i32⟩
  | 118 => ⟨S32x32, .i32⟩
  | 119 => ⟨S32x32, .i1⟩
  | 120 => ⟨S_, .f32⟩
  | 121 => ⟨S32x32, .f32⟩
  | 122 => ⟨S32x32, .f32⟩
  | 123 => ⟨S_, .f32⟩
  | 124 => ⟨S_, .f32⟩
  | 125 => ⟨S_, .f32⟩
  | 126 => ⟨S4096x32, .f32⟩
  | 127 => ⟨S4096x32, .f32⟩
  | _ => ⟨S2x1x4096x512, .f32⟩

abbrev hbmTy0_2 (i : Nat) : BufTy := match i % 128 with
  | 0 => ⟨S4096x32, .f32⟩
  | 1 => ⟨S_, .f32⟩
  | 2 => ⟨S4096, .f32⟩
  | 3 => ⟨S4096, .f32⟩
  | 4 => ⟨S_, .f32⟩
  | 5 => ⟨S4096, .f32⟩
  | 6 => ⟨S4096, .f32⟩
  | 7 => ⟨S4096, .f32⟩
  | 8 => ⟨S4096, .f32⟩
  | 9 => ⟨S4096, .i1⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2x4096x128, .f32⟩
  | 26 => ⟨S_, .f32⟩
  | 27 => ⟨S4096x128, .f32⟩
  | 28 => ⟨S_, .f32⟩
  | 29 => ⟨S4096x128, .f32⟩
  | 30 => ⟨S4096x128, .f32⟩
  | 31 => ⟨S1x4096x128, .f32⟩
  | 32 => ⟨S1x4096x128, .f32⟩
  | 33 => ⟨S1x4096x128, .f32⟩
  | 34 => ⟨S_, .f32⟩
  | 35 => ⟨S_, .f32⟩
  | 36 => ⟨S1x1x8192, .f32⟩
  | 37 => ⟨S1x1x8192, .f32⟩
  | 38 => ⟨S2x1x8192, .f32⟩
  | _ => ⟨S2x1x4096x512, .f32⟩

abbrev hbmTy (i : Nat) : BufTy := match i / 128 with
  | 0 => hbmTy0_0 i
  | 1 => hbmTy0_1 i
  | 2 => hbmTy0_2 i
  | _ => ⟨S2x1x4096x512, .f32⟩

abbrev bufTy : (tb : Table) → Fin (tcTables nBuf tb) → BufTy
  | .hbm, ⟨i, _⟩ => hbmTy i
  | _, _ => ⟨S2x1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_c : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_0 : Ref sig .tc := ⟨.hbm, 27, rfl⟩
abbrev main_call0_call0_v0 : Ref sig .tc := ⟨.hbm, 28, rfl⟩
abbrev main_call0_call0_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call1_cst : Ref sig .tc := ⟨.hbm, 49, rfl⟩
abbrev main_call1_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call2_cst : Ref sig .tc := ⟨.hbm, 68, rfl⟩
abbrev main_call2_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_1 : Ref sig .tc := ⟨.hbm, 82, rfl⟩
abbrev main_v49 : Ref sig .tc := ⟨.hbm, 83, rfl⟩
abbrev main_cst_2 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_3 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_4 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_5 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call3_v0 : Ref sig .tc := ⟨.hbm, 117, rfl⟩
abbrev main_call3_v1 : Ref sig .tc := ⟨.hbm, 118, rfl⟩
abbrev main_call3_c : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_cst : Ref sig .tc := ⟨.hbm, 123, rfl⟩
abbrev main_call3_v5 : Ref sig .tc := ⟨.hbm, 124, rfl⟩
abbrev main_call3_v6 : Ref sig .tc := ⟨.hbm, 125, rfl⟩
abbrev main_call3_cst_0 : Ref sig .tc := ⟨.hbm, 126, rfl⟩
abbrev main_v79 : Ref sig .tc := ⟨.hbm, 127, rfl⟩
abbrev main_cst_6 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_7 : Ref sig .tc := ⟨.hbm, 133, rfl⟩
abbrev main_v84 : Ref sig .tc := ⟨.hbm, 134, rfl⟩
abbrev main_call4_v0 : Ref sig .tc := ⟨.hbm, 135, rfl⟩
abbrev main_call4_call0_cst : Ref sig .tc := ⟨.hbm, 136, rfl⟩
abbrev main_call4_call0_v0 : Ref sig .tc := ⟨.hbm, 137, rfl⟩
abbrev main_call4_call0_v1 : Ref sig .tc := ⟨.hbm, 138, rfl⟩
abbrev main_call4_call0_v2 : Ref sig .tc := ⟨.hbm, 139, rfl⟩
abbrev main_call4_call0_v3 : Ref sig .tc := ⟨.hbm, 140, rfl⟩
abbrev main_call4_call0_v4 : Ref sig .tc := ⟨.hbm, 141, rfl⟩
abbrev main_call4_call0_v5 : Ref sig .tc := ⟨.hbm, 142, rfl⟩
abbrev main_call4_call0_v6 : Ref sig .tc := ⟨.hbm, 143, rfl⟩
abbrev main_call4_call0_v7 : Ref sig .tc := ⟨.hbm, 144, rfl⟩
abbrev main_call4_call0_v8 : Ref sig .tc := ⟨.hbm, 145, rfl⟩
abbrev main_call4_call0_v9 : Ref sig .tc := ⟨.hbm, 146, rfl⟩
abbrev main_call4_call0_v10 : Ref sig .tc := ⟨.hbm, 147, rfl⟩
abbrev main_call4_call0_v11 : Ref sig .tc := ⟨.hbm, 148, rfl⟩
abbrev main_call4_v1 : Ref sig .tc := ⟨.hbm, 149, rfl⟩
abbrev main_v85 : Ref sig .tc := ⟨.hbm, 150, rfl⟩
abbrev main_cst_8 : Ref sig .tc := ⟨.hbm, 151, rfl⟩
abbrev main_v86 : Ref sig .tc := ⟨.hbm, 152, rfl⟩
abbrev main_cst_9 : Ref sig .tc := ⟨.hbm, 153, rfl⟩
abbrev main_v87 : Ref sig .tc := ⟨.hbm, 154, rfl⟩
abbrev main_v88 : Ref sig .tc := ⟨.hbm, 155, rfl⟩
abbrev main_cst_10 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_call5_cst : Ref sig .tc := ⟨.hbm, 174, rfl⟩
abbrev main_call5_v0 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_call6_cst : Ref sig .tc := ⟨.hbm, 193, rfl⟩
abbrev main_call6_v0 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_cst_11 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_12 : Ref sig .tc := ⟨.hbm, 207, rfl⟩
abbrev main_v134 : Ref sig .tc := ⟨.hbm, 208, rfl⟩
abbrev main_cst_13 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_cst_14 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_15 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_cst_16 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_call7_v0 : Ref sig .tc := ⟨.hbm, 242, rfl⟩
abbrev main_call7_v1 : Ref sig .tc := ⟨.hbm, 243, rfl⟩
abbrev main_call7_c : Ref sig .tc := ⟨.hbm, 244, rfl⟩
abbrev main_call7_v2 : Ref sig .tc := ⟨.hbm, 245, rfl⟩
abbrev main_call7_v3 : Ref sig .tc := ⟨.hbm, 246, rfl⟩
abbrev main_call7_v4 : Ref sig .tc := ⟨.hbm, 247, rfl⟩
abbrev main_call7_cst : Ref sig .tc := ⟨.hbm, 248, rfl⟩
abbrev main_call7_v5 : Ref sig .tc := ⟨.hbm, 249, rfl⟩
abbrev main_call7_v6 : Ref sig .tc := ⟨.hbm, 250, rfl⟩
abbrev main_call7_cst_0 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_cst_17 : Ref sig .tc := ⟨.hbm, 257, rfl⟩
abbrev main_v169 : Ref sig .tc := ⟨.hbm, 258, rfl⟩
abbrev main_call8_v0 : Ref sig .tc := ⟨.hbm, 259, rfl⟩
abbrev main_call8_call0_cst : Ref sig .tc := ⟨.hbm, 260, rfl⟩
abbrev main_call8_call0_v0 : Ref sig .tc := ⟨.hbm, 261, rfl⟩
abbrev main_call8_call0_v1 : Ref sig .tc := ⟨.hbm, 262, rfl⟩
abbrev main_call8_call0_v2 : Ref sig .tc := ⟨.hbm, 263, rfl⟩
abbrev main_call8_call0_v3 : Ref sig .tc := ⟨.hbm, 264, rfl⟩
abbrev main_call8_call0_v4 : Ref sig .tc := ⟨.hbm, 265, rfl⟩
abbrev main_call8_call0_v5 : Ref sig .tc := ⟨.hbm, 266, rfl⟩
abbrev main_call8_call0_v6 : Ref sig .tc := ⟨.hbm, 267, rfl⟩
abbrev main_call8_call0_v7 : Ref sig .tc := ⟨.hbm, 268, rfl⟩
abbrev main_call8_call0_v8 : Ref sig .tc := ⟨.hbm, 269, rfl⟩
abbrev main_call8_call0_v9 : Ref sig .tc := ⟨.hbm, 270, rfl⟩
abbrev main_call8_call0_v10 : Ref sig .tc := ⟨.hbm, 271, rfl⟩
abbrev main_call8_call0_v11 : Ref sig .tc := ⟨.hbm, 272, rfl⟩
abbrev main_call8_v1 : Ref sig .tc := ⟨.hbm, 273, rfl⟩
abbrev main_v170 : Ref sig .tc := ⟨.hbm, 274, rfl⟩
abbrev main_cst_18 : Ref sig .tc := ⟨.hbm, 275, rfl⟩
abbrev main_v171 : Ref sig .tc := ⟨.hbm, 276, rfl⟩
abbrev main_cst_19 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_20 : Ref sig .tc := ⟨.hbm, 282, rfl⟩
abbrev main_v176 : Ref sig .tc := ⟨.hbm, 283, rfl⟩
abbrev main_cst_21 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_cst_22 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩

abbrev nD : Nat := 1
abbrev τ : Topo := Topo.v7x

variable {F : FTy → Type} [FloatOps F]
-- ==== Proof.KernelIdeal.Body0.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

/-- A store at the head of a program, what it leaves named by an equation. -/
theorem wp_store_named {Λ : Labels} {defs : Defs nD τ sig (Elt F) Λ} (𝒱 : Variants) (c : Thread nD τ) (bd : Option 𝒱.V) (E : Set ℕ) {s : Shape} {e : EltTy} {α : Type} {Q : α → sProp 𝕄}
    {cs : CoreSpace} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) Λ c.2) α} {f : Buf (Elt F) (m.view.loc c)} :
    (m.view.loc c ↦{fullShare} f)
      ⊢ iprop((∀ g, ⌜g = m.view.writes (Elt F) f [⟨r, w⟩]⌝ -∗ (m.view.loc c ↦{fullShare} g) -∗ wp frame (wpE defs 𝒱 c bd) E (k ⟨⟩) Q)
        -∗ wp frame (wpE defs 𝒱 c bd) E (.op (.store m r w Finset.univ hx hm) k) Q) := by
  iintro H Hk
  iapply (wp_store_writes₀ 𝒱 c bd E (hx := hx) (hm := hm) (k := k) (Finset.subset_univ _)) $$ H
  iintro H
  iapply Hk $$ %(m.view.writes (Elt F) f [⟨r, w⟩]) [] H
  ipureintro
  rfl

/-- A returned value handed on. -/
theorem wp_ret_bind {Λ : Labels} {defs : Defs nD τ sig (Elt F) Λ} (𝒱 : Variants) (c : Thread nD τ) (bd : Option 𝒱.V) (E : Set ℕ) {α β : Type} {Q : α → sProp 𝕄}
    {a : β} {k : β → Prog (TpuEff nD τ sig (Elt F) Λ c.2) α} :
    wp frame (wpE defs 𝒱 c bd) E (k a) Q ⊢ wp frame (wpE defs 𝒱 c bd) E ((Prog.ret a).bind k) Q :=
  Entails.refl _

/-- A memref held at contents reading `x` is owned at `x`. -/
theorem owns_back {sp : Space} {s : Shape} {e : EltTy} (t : Thread nD τ) (m : Memref sig t.2.kind sp s e) (x : Vec F s e)
    (f : Buf (Elt F) (m.view.loc t)) (h : m.view.read (Elt F) f = x) :
    ((m.view.loc t ↦[m.view.set]{fullShare} f) : sProp 𝕄) ⊢ owns t m fullShare x := by
  unfold owns
  iintro H
  iexists f
  isplitl []
  · ipureintro; exact h
  iexact H

/-- A memref whole overwritten by one store is owned at the payload. -/
theorem owns_stored {sp : Space} {s : Shape} {e : EltTy} (t : Thread nD τ) (m : Memref sig t.2.kind sp s e)
    (f : Buf (Elt F) (m.view.loc t)) {off : Fin s.rank → ℕ} (inb : ∀ a, off a + s.size a ≤ s.size a)
    (w : (Rect.unit off s.size inb).shape.Idx → Elt F e) :
    ((m.view.loc t ↦[m.view.set]{fullShare} m.view.writes (Elt F) f [⟨Rect.unit off s.size inb, w⟩]) : sProp 𝕄) ⊢ owns t m fullShare w :=
  owns_back t m w _ (View.read_writes_full m.view f inb w [])

/-- A memref's ownership opened: its contents, reading the words owned. -/
theorem owns_open {sp : Space} {s : Shape} {e : EltTy} (t : Thread nD τ) (m : Memref sig t.2.kind sp s e) (x : Vec F s e) :
    owns t m fullShare x ⊢ (iprop(∃ f, ⌜m.view.read (Elt F) f = x⌝ ∗ (m.view.loc t ↦[m.view.set]{fullShare} f)) : sProp 𝕄) :=
  Entails.refl _

variable (arg2 : Memref sig .tc .vmem S1x1x512x512 .f32) (harg2 : arg2.IsWhole)
variable (arg3 : Memref sig .tc .vmem S1x1x512x512 .f32) (harg3 : arg3.IsWhole)
variable (arg4 : Memref sig .tc .vmem S1x1x512x4096 .f32) (harg4 : arg4.IsWhole)
variable (arg5 : Memref sig .tc .vmem S1x512x128 .f32) (harg5 : arg5.IsWhole)
variable (arg6 : Memref sig .tc .vmem S1x1x128 .f32) (harg6 : arg6.IsWhole)
variable (arg7 : Memref sig .tc .vmem S1x1x32x128 .f32) (harg7 : arg7.IsWhole)
variable (arg8 : Memref sig .tc .vmem S128x128 .f32) (harg8 : arg8.IsWhole)
variable (arg9 : Memref sig .tc .vmem S1x512x2 .f32) (harg9 : arg9.IsWhole)
variable (arg10 : Memref sig .tc .vmem S1x512x128 .f32) (harg10 : arg10.IsWhole)
variable (arg11 : Memref sig .tc .vmem S1x512x32 .bf16) (harg11 : arg11.IsWhole)
variable (arg12 : Memref sig .tc .vmem S1x512x2 .f32) (harg12 : arg12.IsWhole)
variable (arg13 : Memref sig .tc .smem S1x1 .f32) (harg13 : arg13.IsWhole)
variable (arg14 : Memref sig .tc .smem S1x1 .f32) (harg14 : arg14.IsWhole)
variable (x2 : Vec F S1x1x512x512 .f32) (x3 : Vec F S1x1x512x512 .f32) (x4 : Vec F S1x1x512x4096 .f32) (x5 : Vec F S1x512x128 .f32) (x6 : Vec F S1x1x128 .f32) (x7 : Vec F S1x1x32x128 .f32) (x8 : Vec F S128x128 .f32) (x9 : Vec F S1x512x2 .f32) (x10 : Vec F S1x512x128 .f32) (x11 : Vec F S1x512x32 .bf16) (x12 : Vec F S1x512x2 .f32) (x13 : Vec F S1x1 .f32) (x14 : Vec F S1x1 .f32)
variable (c : Dev nD) (E : Set ℕ) (i : grid0.Coords)

/-- What the launch's operands and its two scratch buffers hold. -/
def pre (f15 : Buf (Elt F) ((c : Thread nD τ).loc cc0_scratch0)) (f16 : Buf (Elt F) ((c : Thread nD τ).loc cc0_scratch1)) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
      ∗ (((c : Thread nD τ).loc cc0_scratch0) ↦{fullShare} f15) ∗ (((c : Thread nD τ).loc cc0_scratch1) ↦{fullShare} f16))

/-- The operands, one by one. -/
theorem pre_open (f15 : Buf (Elt F) ((c : Thread nD τ).loc cc0_scratch0)) (f16 : Buf (Elt F) ((c : Thread nD τ).loc cc0_scratch1)) :
    pre (U := U) arg2 arg3 arg4 arg5 arg6 arg7 arg8 arg9 arg10 arg11 arg12 arg13 arg14 x2 x3 x4 x5 x6 x7 x8 x9 x10 x11 x12 x13 x14 c f15 f16 ⊢ iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
      ∗ (((c : Thread nD τ).loc cc0_scratch0) ↦{fullShare} f15) ∗ (((c : Thread nD τ).loc cc0_scratch1) ↦{fullShare} f16)) :=
  Entails.refl _

/-- The plane of the first scratch the point's second half reads: the plane `p - 1`. -/
def slab (h2 : k0_cond2 i = 1#1) (f15 : Buf (Elt F) ((c : Thread nD τ).loc cc0_scratch0)) : Vec F S1x4096x256 .f32 :=
  (Memref.whole cc0_scratch0).view.readAt (Elt F) (Rect.unit (s := S2x4096x256) (k0_off2 i) S1x4096x256.size (k0_off2_inb i h2)).toLoadRect f15

/-- The rows of the second scratch the third pass reads: the block `n`. -/
def u1rows (h2 : k0_cond2 i = 1#1) (h6 : k0_cond6 i = 1#1) (f16 : Buf (Elt F) ((c : Thread nD τ).loc cc0_scratch1)) : Vec F S512x128 .f32 :=
  (Memref.whole cc0_scratch1).view.readAt (Elt F) (Rect.unit (s := S4096x128) (k0_off4 i) S512x128.size (k0_off4_inb i h2 h6)).toLoadRect f16

/-- The one word of a single-word block. -/
def smem0 (x : Vec F S1x1 .f32) : Elt F .f32 := x (Shape.Idx.first (s := S1x1) (by decide))

/-- The first scratch after the first two passes' store. -/
def put15 (h1 : k0_cond1 i = 1#1) (f15 : Buf (Elt F) ((c : Thread nD τ).loc cc0_scratch0)) : Buf (Elt F) ((c : Thread nD τ).loc cc0_scratch0) :=
  (Memref.whole cc0_scratch0).view.writes (Elt F) f15 [⟨Rect.unit (s := S2x4096x256) (k0_off1 i) S1x512x256.size (k0_off1_inb i h1), k0_pay1 x5 x6 x2 x3⟩]

/-- The second scratch after the second pass's store of the rows computed from the plane `v`. -/
def put16 (h2 : k0_cond2 i = 1#1) (h5 : k0_cond5 i = 1#1) (v : Vec F S1x4096x256 .f32) (f16 : Buf (Elt F) ((c : Thread nD τ).loc cc0_scratch1)) : Buf (Elt F) ((c : Thread nD τ).loc cc0_scratch1) :=
  (Memref.whole cc0_scratch1).view.writes (Elt F) f16 [⟨Rect.unit (s := S4096x128) (k0_off3 i) S512x128.size (k0_off3_inb i h2 h5), k0_pay3 (k0_pay7 x4 v)⟩]

set_option maxHeartbeats 1000000 in
/-- The first pass: the point stores its block of the first plane and nothing else. -/
theorem runA (f15 : Buf (Elt F) ((c : Thread nD τ).loc cc0_scratch0)) (f16 : Buf (Elt F) ((c : Thread nD τ).loc cc0_scratch1))
    (h1 : k0_cond1 i = 1#1) (h2 : ¬ k0_cond2 i = 1#1)
    (K : PUnit → sProp 𝕄) :
    iprop(pre (U := U) arg2 arg3 arg4 arg5 arg6 arg7 arg8 arg9 arg10 arg11 arg12 arg13 arg14 x2 x3 x4 x5 x6 x7 x8 x9 x10 x11 x12 x13 x14 c f15 f16
      ∗ (∀ g15 g16, ⌜g15 = put15 x2 x3 x5 x6 c i h1 f15⌝ -∗ ⌜g16 = f16⌝ -∗ pre (U := U) arg2 arg3 arg4 arg5 arg6 arg7 arg8 arg9 arg10 arg11 arg12 arg13 arg14 x2 x3 x4 x5 x6 x7 x8 x9 x10 x11 x12 x13 x14 c g15 g16 -∗ K ⟨⟩))
    ⊢ wp frame (wpE (defs₀ (F := F)) Variants.none c none) E
        (cc0__k1_body i arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) K := by
  simp only [cc0__k1_body_eq_skeleton]; unfold cc0__k1_body_skel
  simp only [k0_part1_eq_skeleton]; unfold k0_part1_skel
  simp only [k0_part2_eq_skeleton]; unfold k0_part2_skel
  iintro ⟨Hp, Hk⟩
  ihave Hp := (pre_open (U := U) arg2 arg3 arg4 arg5 arg6 arg7 arg8 arg9 arg10 arg11 arg12 arg13 arg14 x2 x3 x4 x5 x6 x7 x8 x9 x10 x11 x12 x13 x14 c f15 f16) $$ Hp
  icases Hp with ⟨O2, O3, O4, O5, O6, O7, O8, O9, O10, O11, O12, O13, O14, H15, H16⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  ihave O4 := (owns_open (U := U) (c : Thread nD τ) arg4 x4) $$ O4; icases O4 with ⟨%f4, %hf4, H4⟩
  ihave O5 := (owns_open (U := U) (c : Thread nD τ) arg5 x5) $$ O5; icases O5 with ⟨%f5, %hf5, H5⟩
  ihave O6 := (owns_open (U := U) (c : Thread nD τ) arg6 x6) $$ O6; icases O6 with ⟨%f6, %hf6, H6⟩
  ihave O7 := (owns_open (U := U) (c : Thread nD τ) arg7 x7) $$ O7; icases O7 with ⟨%f7, %hf7, H7⟩
  ihave O8 := (owns_open (U := U) (c : Thread nD τ) arg8 x8) $$ O8; icases O8 with ⟨%f8, %hf8, H8⟩
  ihave O9 := (owns_open (U := U) (c : Thread nD τ) arg9 x9) $$ O9; icases O9 with ⟨%f9, %hf9, H9⟩
  ihave O10 := (owns_open (U := U) (c : Thread nD τ) arg10 x10) $$ O10; icases O10 with ⟨%f10, %hf10, H10⟩
  ihave O11 := (owns_open (U := U) (c : Thread nD τ) arg11 x11) $$ O11; icases O11 with ⟨%f11, %hf11, H11⟩
  ihave O12 := (owns_open (U := U) (c : Thread nD τ) arg12 x12) $$ O12; icases O12 with ⟨%f12, %hf12, H12⟩
  ihave O13 := (owns_open (U := U) (c : Thread nD τ) arg13 x13) $$ O13; icases O13 with ⟨%f13, %hf13, H13⟩
  ihave O14 := (owns_open (U := U) (c : Thread nD τ) arg14 x14) $$ O14; icases O14 with ⟨%f14, %hf14, H14⟩
  sl_exec
  sl_step
  iapply (wp_store_named Variants.none (c : Thread nD τ) none E (m := Memref.whole cc0_scratch0) (f := f15)) $$ H15
  iintro %g15 %hg15 H15
  iapply (wp_ret_bind Variants.none (c : Thread nD τ) none E)
  sl_exec
  sl_step
  obtain rfl : arg2.view.readAt (Elt F) (Rect.unit (s := S1x1x512x512) ![0, 0, 0, 0] S1x1x512x512.size inb_S1x1x512x512_S1x1x512x512_0_0_0_0).toLoadRect f2 = x2 := (View.readAt_full arg2.view f2 inb_S1x1x512x512_S1x1x512x512_0_0_0_0).trans hf2
  obtain rfl : arg3.view.readAt (Elt F) (Rect.unit (s := S1x1x512x512) ![0, 0, 0, 0] S1x1x512x512.size inb_S1x1x512x512_S1x1x512x512_0_0_0_0).toLoadRect f3 = x3 := (View.readAt_full arg3.view f3 inb_S1x1x512x512_S1x1x512x512_0_0_0_0).trans hf3
  obtain rfl : arg5.view.readAt (Elt F) (Rect.unit (s := S1x512x128) ![0, 0, 0] S1x512x128.size inb_S1x512x128_S1x512x128_0_0_0).toLoadRect f5 = x5 := (View.readAt_full arg5.view f5 inb_S1x512x128_S1x512x128_0_0_0).trans hf5
  obtain rfl : arg6.view.readAt (Elt F) (Rect.unit (s := S1x1x128) ![0, 0, 0] S1x1x128.size inb_S1x1x128_S1x1x128_0_0_0).toLoadRect f6 = x6 := (View.readAt_full arg6.view f6 inb_S1x1x128_S1x1x128_0_0_0).trans hf6
  ihave H2 := (owns_back (U := U) (c : Thread nD τ) arg2 _ f2 hf2) $$ H2
  ihave H3 := (owns_back (U := U) (c : Thread nD τ) arg3 _ f3 hf3) $$ H3
  ihave H4 := (owns_back (U := U) (c : Thread nD τ) arg4 _ f4 hf4) $$ H4
  ihave H5 := (owns_back (U := U) (c : Thread nD τ) arg5 _ f5 hf5) $$ H5
  ihave H6 := (owns_back (U := U) (c : Thread nD τ) arg6 _ f6 hf6) $$ H6
  ihave H7 := (owns_back (U := U) (c : Thread nD τ) arg7 _ f7 hf7) $$ H7
  ihave H8 := (owns_back (U := U) (c : Thread nD τ) arg8 _ f8 hf8) $$ H8
  ihave H9 := (owns_back (U := U) (c : Thread nD τ) arg9 _ f9 hf9) $$ H9
  ihave H10 := (owns_back (U := U) (c : Thread nD τ) arg10 _ f10 hf10) $$ H10
  ihave H11 := (owns_back (U := U) (c : Thread nD τ) arg11 _ f11 hf11) $$ H11
  ihave H12 := (owns_back (U := U) (c : Thread nD τ) arg12 _ f12 hf12) $$ H12
  ihave H13 := (owns_back (U := U) (c : Thread nD τ) arg13 _ f13 hf13) $$ H13
  ihave H14 := (owns_back (U := U) (c : Thread nD τ) arg14 _ f14 hf14) $$ H14
  iapply Hk $$ %g15 %f16 [] [] [H2 H3 H4 H5 H6 H7 H8 H9 H10 H11 H12 H13 H14 H15 H16]
  · ipureintro; exact hg15
  · ipureintro; exact rfl
  unfold pre
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The second pass's first point: its block of the second plane stored, its results from the first plane, the running sum begun. -/
theorem runB (f15 : Buf (Elt F) ((c : Thread nD τ).loc cc0_scratch0)) (f16 : Buf (Elt F) ((c : Thread nD τ).loc cc0_scratch1))
    (h1 : k0_cond1 i = 1#1) (h2 : k0_cond2 i = 1#1) (h3 : k0_cond3 i = 1#1) (h4 : ¬ k0_cond4 i = 1#1) (h5 : k0_cond5 i = 1#1) (h6 : ¬ k0_cond6 i = 1#1)
    (K : PUnit → sProp 𝕄) :
    iprop(pre (U := U) arg2 arg3 arg4 arg5 arg6 arg7 arg8 arg9 arg10 arg11 arg12 arg13 arg14 x2 x3 x4 x5 x6 x7 x8 x9 x10 x11 x12 x13 x14 c f15 f16
      ∗ (∀ g15 g16, ⌜g15 = put15 x2 x3 x5 x6 c i h1 f15⌝ -∗ ⌜g16 = put16 x4 c i h2 h5 (slab c i h2 g15) f16⌝ -∗ pre (U := U) arg2 arg3 arg4 arg5 arg6 arg7 arg8 arg9 arg10 arg11 arg12 arg13 arg14 x2 x3 x4 x5 x6 x7 x8 x9 x10 (k0_pay12 (k0_pay9 x4 (slab c i h2 g15) x7)) (k0_pay11 (k0_pay10 x4 (slab c i h2 g15) x7 x8) x9) (fun _ => k0_pay13 (k0_pay9 x4 (slab c i h2 g15) x7)) x14 c g15 g16 -∗ K ⟨⟩))
    ⊢ wp frame (wpE (defs₀ (F := F)) Variants.none c none) E
        (cc0__k1_body i arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) K := by
  simp only [cc0__k1_body_eq_skeleton]; unfold cc0__k1_body_skel
  simp only [k0_part1_eq_skeleton]; unfold k0_part1_skel
  simp only [k0_part2_eq_skeleton]; unfold k0_part2_skel
  iintro ⟨Hp, Hk⟩
  ihave Hp := (pre_open (U := U) arg2 arg3 arg4 arg5 arg6 arg7 arg8 arg9 arg10 arg11 arg12 arg13 arg14 x2 x3 x4 x5 x6 x7 x8 x9 x10 x11 x12 x13 x14 c f15 f16) $$ Hp
  icases Hp with ⟨O2, O3, O4, O5, O6, O7, O8, O9, O10, O11, O12, O13, O14, H15, H16⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  ihave O4 := (owns_open (U := U) (c : Thread nD τ) arg4 x4) $$ O4; icases O4 with ⟨%f4, %hf4, H4⟩
  ihave O5 := (owns_open (U := U) (c : Thread nD τ) arg5 x5) $$ O5; icases O5 with ⟨%f5, %hf5, H5⟩
  ihave O6 := (owns_open (U := U) (c : Thread nD τ) arg6 x6) $$ O6; icases O6 with ⟨%f6, %hf6, H6⟩
  ihave O7 := (owns_open (U := U) (c : Thread nD τ) arg7 x7) $$ O7; icases O7 with ⟨%f7, %hf7, H7⟩
  ihave O8 := (owns_open (U := U) (c : Thread nD τ) arg8 x8) $$ O8; icases O8 with ⟨%f8, %hf8, H8⟩
  ihave O9 := (owns_open (U := U) (c : Thread nD τ) arg9 x9) $$ O9; icases O9 with ⟨%f9, %hf9, H9⟩
  ihave O10 := (owns_open (U := U) (c : Thread nD τ) arg10 x10) $$ O10; icases O10 with ⟨%f10, %hf10, H10⟩
  ihave O11 := (owns_open (U := U) (c : Thread nD τ) arg11 x11) $$ O11; icases O11 with ⟨%f11, %hf11, H11⟩
  ihave O12 := (owns_open (U := U) (c : Thread nD τ) arg12 x12) $$ O12; icases O12 with ⟨%f12, %hf12, H12⟩
  ihave O13 := (owns_open (U := U) (c : Thread nD τ) arg13 x13) $$ O13; icases O13 with ⟨%f13, %hf13, H13⟩
  ihave O14 := (owns_open (U := U) (c : Thread nD τ) arg14 x14) $$ O14; icases O14 with ⟨%f14, %hf14, H14⟩
  sl_exec
  sl_step
  iapply (wp_store_named Variants.none (c : Thread nD τ) none E (m := Memref.whole cc0_scratch0) (f := f15)) $$ H15
  iintro %g15 %hg15 H15
  iapply (wp_ret_bind Variants.none (c : Thread nD τ) none E)
  sl_exec
  sl_step
  iapply (wp_store_named Variants.none (c : Thread nD τ) none E (m := Memref.whole cc0_scratch1) (f := f16)) $$ H16
  iintro %g16 %hg16 H16
  iapply (wp_ret_bind Variants.none (c : Thread nD τ) none E)
  sl_exec
  sl_step
  obtain rfl : arg2.view.readAt (Elt F) (Rect.unit (s := S1x1x512x512) ![0, 0, 0, 0] S1x1x512x512.size inb_S1x1x512x512_S1x1x512x512_0_0_0_0).toLoadRect f2 = x2 := (View.readAt_full arg2.view f2 inb_S1x1x512x512_S1x1x512x512_0_0_0_0).trans hf2
  obtain rfl : arg3.view.readAt (Elt F) (Rect.unit (s := S1x1x512x512) ![0, 0, 0, 0] S1x1x512x512.size inb_S1x1x512x512_S1x1x512x512_0_0_0_0).toLoadRect f3 = x3 := (View.readAt_full arg3.view f3 inb_S1x1x512x512_S1x1x512x512_0_0_0_0).trans hf3
  obtain rfl : arg4.view.readAt (Elt F) (Rect.unit (s := S1x1x512x4096) ![0, 0, 0, 0] S1x1x512x4096.size inb_S1x1x512x4096_S1x1x512x4096_0_0_0_0).toLoadRect f4 = x4 := (View.readAt_full arg4.view f4 inb_S1x1x512x4096_S1x1x512x4096_0_0_0_0).trans hf4
  obtain rfl : arg5.view.readAt (Elt F) (Rect.unit (s := S1x512x128) ![0, 0, 0] S1x512x128.size inb_S1x512x128_S1x512x128_0_0_0).toLoadRect f5 = x5 := (View.readAt_full arg5.view f5 inb_S1x512x128_S1x512x128_0_0_0).trans hf5
  obtain rfl : arg6.view.readAt (Elt F) (Rect.unit (s := S1x1x128) ![0, 0, 0] S1x1x128.size inb_S1x1x128_S1x1x128_0_0_0).toLoadRect f6 = x6 := (View.readAt_full arg6.view f6 inb_S1x1x128_S1x1x128_0_0_0).trans hf6
  obtain rfl : arg7.view.readAt (Elt F) (Rect.unit (s := S1x1x32x128) ![0, 0, 0, 0] S1x1x32x128.size inb_S1x1x32x128_S1x1x32x128_0_0_0_0).toLoadRect f7 = x7 := (View.readAt_full arg7.view f7 inb_S1x1x32x128_S1x1x32x128_0_0_0_0).trans hf7
  obtain rfl : arg8.view.readAt (Elt F) (Rect.unit (s := S128x128) ![0, 0] S128x128.size inb_S128x128_S128x128_0_0).toLoadRect f8 = x8 := (View.readAt_full arg8.view f8 inb_S128x128_S128x128_0_0).trans hf8
  obtain rfl : arg9.view.readAt (Elt F) (Rect.unit (s := S1x512x2) ![0, 0, 0] S1x512x2.size inb_S1x512x2_S1x512x2_0_0_0).toLoadRect f9 = x9 := (View.readAt_full arg9.view f9 inb_S1x512x2_S1x512x2_0_0_0).trans hf9
  ihave H2 := (owns_back (U := U) (c : Thread nD τ) arg2 _ f2 hf2) $$ H2
  ihave H3 := (owns_back (U := U) (c : Thread nD τ) arg3 _ f3 hf3) $$ H3
  ihave H4 := (owns_back (U := U) (c : Thread nD τ) arg4 _ f4 hf4) $$ H4
  ihave H5 := (owns_back (U := U) (c : Thread nD τ) arg5 _ f5 hf5) $$ H5
  ihave H6 := (owns_back (U := U) (c : Thread nD τ) arg6 _ f6 hf6) $$ H6
  ihave H7 := (owns_back (U := U) (c : Thread nD τ) arg7 _ f7 hf7) $$ H7
  ihave H8 := (owns_back (U := U) (c : Thread nD τ) arg8 _ f8 hf8) $$ H8
  ihave H9 := (owns_back (U := U) (c : Thread nD τ) arg9 _ f9 hf9) $$ H9
  ihave H10 := (owns_back (U := U) (c : Thread nD τ) arg10 _ f10 hf10) $$ H10
  ihave H11 := (owns_stored (U := U) (c : Thread nD τ) arg11 f11 inb_S1x512x32_S1x512x32_0_0_0 _) $$ H11
  ihave H12 := (owns_stored (U := U) (c : Thread nD τ) arg12 f12 inb_S1x512x2_S1x512x2_0_0_0 _) $$ H12
  ihave H13 := (owns_stored (U := U) (c : Thread nD τ) arg13 f13 inb_S1x1_S1x1_0_0 _) $$ H13
  ihave H14 := (owns_back (U := U) (c : Thread nD τ) arg14 _ f14 hf14) $$ H14
  iapply Hk $$ %g15 %g16 [] [] [H2 H3 H4 H5 H6 H7 H8 H9 H10 H11 H12 H13 H14 H15 H16]
  · ipureintro; exact hg15
  · ipureintro; exact hg16
  unfold pre
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The second pass's later points: the running sum added to. -/
theorem runC (f15 : Buf (Elt F) ((c : Thread nD τ).loc cc0_scratch0)) (f16 : Buf (Elt F) ((c : Thread nD τ).loc cc0_scratch1))
    (h1 : k0_cond1 i = 1#1) (h2 : k0_cond2 i = 1#1) (h3 : ¬ k0_cond3 i = 1#1) (h4 : k0_cond4 i = 1#1) (h5 : k0_cond5 i = 1#1) (h6 : ¬ k0_cond6 i = 1#1)
    (K : PUnit → sProp 𝕄) :
    iprop(pre (U := U) arg2 arg3 arg4 arg5 arg6 arg7 arg8 arg9 arg10 arg11 arg12 arg13 arg14 x2 x3 x4 x5 x6 x7 x8 x9 x10 x11 x12 x13 x14 c f15 f16
      ∗ (∀ g15 g16, ⌜g15 = put15 x2 x3 x5 x6 c i h1 f15⌝ -∗ ⌜g16 = put16 x4 c i h2 h5 (slab c i h2 g15) f16⌝ -∗ pre (U := U) arg2 arg3 arg4 arg5 arg6 arg7 arg8 arg9 arg10 arg11 arg12 arg13 arg14 x2 x3 x4 x5 x6 x7 x8 x9 x10 (k0_pay12 (k0_pay9 x4 (slab c i h2 g15) x7)) (k0_pay11 (k0_pay10 x4 (slab c i h2 g15) x7 x8) x9) (fun _ => k0_pay2 (k0_pay13 (k0_pay9 x4 (slab c i h2 g15) x7)) (smem0 x13)) x14 c g15 g16 -∗ K ⟨⟩))
    ⊢ wp frame (wpE (defs₀ (F := F)) Variants.none c none) E
        (cc0__k1_body i arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) K := by
  simp only [cc0__k1_body_eq_skeleton]; unfold cc0__k1_body_skel
  simp only [k0_part1_eq_skeleton]; unfold k0_part1_skel
  simp only [k0_part2_eq_skeleton]; unfold k0_part2_skel
  iintro ⟨Hp, Hk⟩
  ihave Hp := (pre_open (U := U) arg2 arg3 arg4 arg5 arg6 arg7 arg8 arg9 arg10 arg11 arg12 arg13 arg14 x2 x3 x4 x5 x6 x7 x8 x9 x10 x11 x12 x13 x14 c f15 f16) $$ Hp
  icases Hp with ⟨O2, O3, O4, O5, O6, O7, O8, O9, O10, O11, O12, O13, O14, H15, H16⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  ihave O4 := (owns_open (U := U) (c : Thread nD τ) arg4 x4) $$ O4; icases O4 with ⟨%f4, %hf4, H4⟩
  ihave O5 := (owns_open (U := U) (c : Thread nD τ) arg5 x5) $$ O5; icases O5 with ⟨%f5, %hf5, H5⟩
  ihave O6 := (owns_open (U := U) (c : Thread nD τ) arg6 x6) $$ O6; icases O6 with ⟨%f6, %hf6, H6⟩
  ihave O7 := (owns_open (U := U) (c : Thread nD τ) arg7 x7) $$ O7; icases O7 with ⟨%f7, %hf7, H7⟩
  ihave O8 := (owns_open (U := U) (c : Thread nD τ) arg8 x8) $$ O8; icases O8 with ⟨%f8, %hf8, H8⟩
  ihave O9 := (owns_open (U := U) (c : Thread nD τ) arg9 x9) $$ O9; icases O9 with ⟨%f9, %hf9, H9⟩
  ihave O10 := (owns_open (U := U) (c : Thread nD τ) arg10 x10) $$ O10; icases O10 with ⟨%f10, %hf10, H10⟩
  ihave O11 := (owns_open (U := U) (c : Thread nD τ) arg11 x11) $$ O11; icases O11 with ⟨%f11, %hf11, H11⟩
  ihave O12 := (owns_open (U := U) (c : Thread nD τ) arg12 x12) $$ O12; icases O12 with ⟨%f12, %hf12, H12⟩
  ihave O13 := (owns_open (U := U) (c : Thread nD τ) arg13 x13) $$ O13; icases O13 with ⟨%f13, %hf13, H13⟩
  ihave O14 := (owns_open (U := U) (c : Thread nD τ) arg14 x14) $$ O14; icases O14 with ⟨%f14, %hf14, H14⟩
  sl_exec
  sl_step
  iapply (wp_store_named Variants.none (c : Thread nD τ) none E (m := Memref.whole cc0_scratch0) (f := f15)) $$ H15
  iintro %g15 %hg15 H15
  iapply (wp_ret_bind Variants.none (c : Thread nD τ) none E)
  sl_exec
  sl_step
  iapply (wp_store_named Variants.none (c : Thread nD τ) none E (m := Memref.whole cc0_scratch1) (f := f16)) $$ H16
  iintro %g16 %hg16 H16
  iapply (wp_ret_bind Variants.none (c : Thread nD τ) none E)
  sl_exec
  sl_step
  obtain rfl : arg2.view.readAt (Elt F) (Rect.unit (s := S1x1x512x512) ![0, 0, 0, 0] S1x1x512x512.size inb_S1x1x512x512_S1x1x512x512_0_0_0_0).toLoadRect f2 = x2 := (View.readAt_full arg2.view f2 inb_S1x1x512x512_S1x1x512x512_0_0_0_0).trans hf2
  obtain rfl : arg3.view.readAt (Elt F) (Rect.unit (s := S1x1x512x512) ![0, 0, 0, 0] S1x1x512x512.size inb_S1x1x512x512_S1x1x512x512_0_0_0_0).toLoadRect f3 = x3 := (View.readAt_full arg3.view f3 inb_S1x1x512x512_S1x1x512x512_0_0_0_0).trans hf3
  obtain rfl : arg4.view.readAt (Elt F) (Rect.unit (s := S1x1x512x4096) ![0, 0, 0, 0] S1x1x512x4096.size inb_S1x1x512x4096_S1x1x512x4096_0_0_0_0).toLoadRect f4 = x4 := (View.readAt_full arg4.view f4 inb_S1x1x512x4096_S1x1x512x4096_0_0_0_0).trans hf4
  obtain rfl : arg5.view.readAt (Elt F) (Rect.unit (s := S1x512x128) ![0, 0, 0] S1x512x128.size inb_S1x512x128_S1x512x128_0_0_0).toLoadRect f5 = x5 := (View.readAt_full arg5.view f5 inb_S1x512x128_S1x512x128_0_0_0).trans hf5
  obtain rfl : arg6.view.readAt (Elt F) (Rect.unit (s := S1x1x128) ![0, 0, 0] S1x1x128.size inb_S1x1x128_S1x1x128_0_0_0).toLoadRect f6 = x6 := (View.readAt_full arg6.view f6 inb_S1x1x128_S1x1x128_0_0_0).trans hf6
  obtain rfl : arg7.view.readAt (Elt F) (Rect.unit (s := S1x1x32x128) ![0, 0, 0, 0] S1x1x32x128.size inb_S1x1x32x128_S1x1x32x128_0_0_0_0).toLoadRect f7 = x7 := (View.readAt_full arg7.view f7 inb_S1x1x32x128_S1x1x32x128_0_0_0_0).trans hf7
  obtain rfl : arg8.view.readAt (Elt F) (Rect.unit (s := S128x128) ![0, 0] S128x128.size inb_S128x128_S128x128_0_0).toLoadRect f8 = x8 := (View.readAt_full arg8.view f8 inb_S128x128_S128x128_0_0).trans hf8
  obtain rfl : arg9.view.readAt (Elt F) (Rect.unit (s := S1x512x2) ![0, 0, 0] S1x512x2.size inb_S1x512x2_S1x512x2_0_0_0).toLoadRect f9 = x9 := (View.readAt_full arg9.view f9 inb_S1x512x2_S1x512x2_0_0_0).trans hf9
  obtain rfl : arg13.view.readAt (Elt F) (Rect.unit (s := S1x1) ![0, 0] S1x1.size inb_S1x1_S1x1_0_0).toLoadRect f13 = x13 := (View.readAt_full arg13.view f13 inb_S1x1_S1x1_0_0).trans hf13
  ihave H2 := (owns_back (U := U) (c : Thread nD τ) arg2 _ f2 hf2) $$ H2
  ihave H3 := (owns_back (U := U) (c : Thread nD τ) arg3 _ f3 hf3) $$ H3
  ihave H4 := (owns_back (U := U) (c : Thread nD τ) arg4 _ f4 hf4) $$ H4
  ihave H5 := (owns_back (U := U) (c : Thread nD τ) arg5 _ f5 hf5) $$ H5
  ihave H6 := (owns_back (U := U) (c : Thread nD τ) arg6 _ f6 hf6) $$ H6
  ihave H7 := (owns_back (U := U) (c : Thread nD τ) arg7 _ f7 hf7) $$ H7
  ihave H8 := (owns_back (U := U) (c : Thread nD τ) arg8 _ f8 hf8) $$ H8
  ihave H9 := (owns_back (U := U) (c : Thread nD τ) arg9 _ f9 hf9) $$ H9
  ihave H10 := (owns_back (U := U) (c : Thread nD τ) arg10 _ f10 hf10) $$ H10
  ihave H11 := (owns_stored (U := U) (c : Thread nD τ) arg11 f11 inb_S1x512x32_S1x512x32_0_0_0 _) $$ H11
  ihave H12 := (owns_stored (U := U) (c : Thread nD τ) arg12 f12 inb_S1x512x2_S1x512x2_0_0_0 _) $$ H12
  ihave H13 := (owns_stored (U := U) (c : Thread nD τ) arg13 f13 inb_S1x1_S1x1_0_0 _) $$ H13
  ihave H14 := (owns_back (U := U) (c : Thread nD τ) arg14 _ f14 hf14) $$ H14
  iapply Hk $$ %g15 %g16 [] [] [H2 H3 H4 H5 H6 H7 H8 H9 H10 H11 H12 H13 H14 H15 H16]
  · ipureintro; exact hg15
  · ipureintro; exact hg16
  unfold pre
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The third pass's first point: its results from the second plane, the second running sum begun. -/
theorem runD (f15 : Buf (Elt F) ((c : Thread nD τ).loc cc0_scratch0)) (f16 : Buf (Elt F) ((c : Thread nD τ).loc cc0_scratch1))
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1) (h7 : k0_cond7 i = 1#1) (h8 : ¬ k0_cond8 i = 1#1)
    (K : PUnit → sProp 𝕄) :
    iprop(pre (U := U) arg2 arg3 arg4 arg5 arg6 arg7 arg8 arg9 arg10 arg11 arg12 arg13 arg14 x2 x3 x4 x5 x6 x7 x8 x9 x10 x11 x12 x13 x14 c f15 f16
      ∗ (∀ g15 g16, ⌜g15 = f15⌝ -∗ ⌜g16 = f16⌝ -∗ pre (U := U) arg2 arg3 arg4 arg5 arg6 arg7 arg8 arg9 arg10 arg11 arg12 arg13 arg14 x2 x3 x4 x5 x6 x7 x8 x9 x10 (k0_pay12 (k0_pay9 x4 (slab c i h2 f15) x7)) (k0_pay11 (k0_pay10 x4 (slab c i h2 f15) x7 x8) x9) (fun _ => k0_pay2 (k0_pay13 (k0_pay9 x4 (slab c i h2 f15) x7)) (smem0 x13)) (fun _ => k0_pay4 (k0_pay7 x4 (slab c i h2 f15)) (u1rows c i h2 h6 f16) x10) c g15 g16 -∗ K ⟨⟩))
    ⊢ wp frame (wpE (defs₀ (F := F)) Variants.none c none) E
        (cc0__k1_body i arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) K := by
  simp only [cc0__k1_body_eq_skeleton]; unfold cc0__k1_body_skel
  simp only [k0_part1_eq_skeleton]; unfold k0_part1_skel
  simp only [k0_part2_eq_skeleton]; unfold k0_part2_skel
  iintro ⟨Hp, Hk⟩
  ihave Hp := (pre_open (U := U) arg2 arg3 arg4 arg5 arg6 arg7 arg8 arg9 arg10 arg11 arg12 arg13 arg14 x2 x3 x4 x5 x6 x7 x8 x9 x10 x11 x12 x13 x14 c f15 f16) $$ Hp
  icases Hp with ⟨O2, O3, O4, O5, O6, O7, O8, O9, O10, O11, O12, O13, O14, H15, H16⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  ihave O4 := (owns_open (U := U) (c : Thread nD τ) arg4 x4) $$ O4; icases O4 with ⟨%f4, %hf4, H4⟩
  ihave O5 := (owns_open (U := U) (c : Thread nD τ) arg5 x5) $$ O5; icases O5 with ⟨%f5, %hf5, H5⟩
  ihave O6 := (owns_open (U := U) (c : Thread nD τ) arg6 x6) $$ O6; icases O6 with ⟨%f6, %hf6, H6⟩
  ihave O7 := (owns_open (U := U) (c : Thread nD τ) arg7 x7) $$ O7; icases O7 with ⟨%f7, %hf7, H7⟩
  ihave O8 := (owns_open (U := U) (c : Thread nD τ) arg8 x8) $$ O8; icases O8 with ⟨%f8, %hf8, H8⟩
  ihave O9 := (owns_open (U := U) (c : Thread nD τ) arg9 x9) $$ O9; icases O9 with ⟨%f9, %hf9, H9⟩
  ihave O10 := (owns_open (U := U) (c : Thread nD τ) arg10 x10) $$ O10; icases O10 with ⟨%f10, %hf10, H10⟩
  ihave O11 := (owns_open (U := U) (c : Thread nD τ) arg11 x11) $$ O11; icases O11 with ⟨%f11, %hf11, H11⟩
  ihave O12 := (owns_open (U := U) (c : Thread nD τ) arg12 x12) $$ O12; icases O12 with ⟨%f12, %hf12, H12⟩
  ihave O13 := (owns_open (U := U) (c : Thread nD τ) arg13 x13) $$ O13; icases O13 with ⟨%f13, %hf13, H13⟩
  ihave O14 := (owns_open (U := U) (c : Thread nD τ) arg14 x14) $$ O14; icases O14 with ⟨%f14, %hf14, H14⟩
  sl_exec
  sl_step
  sl_exec
  sl_step
  sl_exec
  sl_step
  obtain rfl : arg4.view.readAt (Elt F) (Rect.unit (s := S1x1x512x4096) ![0, 0, 0, 0] S1x1x512x4096.size inb_S1x1x512x4096_S1x1x512x4096_0_0_0_0).toLoadRect f4 = x4 := (View.readAt_full arg4.view f4 inb_S1x1x512x4096_S1x1x512x4096_0_0_0_0).trans hf4
  obtain rfl : arg7.view.readAt (Elt F) (Rect.unit (s := S1x1x32x128) ![0, 0, 0, 0] S1x1x32x128.size inb_S1x1x32x128_S1x1x32x128_0_0_0_0).toLoadRect f7 = x7 := (View.readAt_full arg7.view f7 inb_S1x1x32x128_S1x1x32x128_0_0_0_0).trans hf7
  obtain rfl : arg8.view.readAt (Elt F) (Rect.unit (s := S128x128) ![0, 0] S128x128.size inb_S128x128_S128x128_0_0).toLoadRect f8 = x8 := (View.readAt_full arg8.view f8 inb_S128x128_S128x128_0_0).trans hf8
  obtain rfl : arg9.view.readAt (Elt F) (Rect.unit (s := S1x512x2) ![0, 0, 0] S1x512x2.size inb_S1x512x2_S1x512x2_0_0_0).toLoadRect f9 = x9 := (View.readAt_full arg9.view f9 inb_S1x512x2_S1x512x2_0_0_0).trans hf9
  obtain rfl : arg10.view.readAt (Elt F) (Rect.unit (s := S1x512x128) ![0, 0, 0] S1x512x128.size inb_S1x512x128_S1x512x128_0_0_0).toLoadRect f10 = x10 := (View.readAt_full arg10.view f10 inb_S1x512x128_S1x512x128_0_0_0).trans hf10
  obtain rfl : arg13.view.readAt (Elt F) (Rect.unit (s := S1x1) ![0, 0] S1x1.size inb_S1x1_S1x1_0_0).toLoadRect f13 = x13 := (View.readAt_full arg13.view f13 inb_S1x1_S1x1_0_0).trans hf13
  ihave H2 := (owns_back (U := U) (c : Thread nD τ) arg2 _ f2 hf2) $$ H2
  ihave H3 := (owns_back (U := U) (c : Thread nD τ) arg3 _ f3 hf3) $$ H3
  ihave H4 := (owns_back (U := U) (c : Thread nD τ) arg4 _ f4 hf4) $$ H4
  ihave H5 := (owns_back (U := U) (c : Thread nD τ) arg5 _ f5 hf5) $$ H5
  ihave H6 := (owns_back (U := U) (c : Thread nD τ) arg6 _ f6 hf6) $$ H6
  ihave H7 := (owns_back (U := U) (c : Thread nD τ) arg7 _ f7 hf7) $$ H7
  ihave H8 := (owns_back (U := U) (c : Thread nD τ) arg8 _ f8 hf8) $$ H8
  ihave H9 := (owns_back (U := U) (c : Thread nD τ) arg9 _ f9 hf9) $$ H9
  ihave H10 := (owns_back (U := U) (c : Thread nD τ) arg10 _ f10 hf10) $$ H10
  ihave H11 := (owns_stored (U := U) (c : Thread nD τ) arg11 f11 inb_S1x512x32_S1x512x32_0_0_0 _) $$ H11
  ihave H12 := (owns_stored (U := U) (c : Thread nD τ) arg12 f12 inb_S1x512x2_S1x512x2_0_0_0 _) $$ H12
  ihave H13 := (owns_stored (U := U) (c : Thread nD τ) arg13 f13 inb_S1x1_S1x1_0_0 _) $$ H13
  ihave H14 := (owns_stored (U := U) (c : Thread nD τ) arg14 f14 inb_S1x1_S1x1_0_0 _) $$ H14
  iapply Hk $$ %f15 %f16 [] [] [H2 H3 H4 H5 H6 H7 H8 H9 H10 H11 H12 H13 H14 H15 H16]
  · ipureintro; exact rfl
  · ipureintro; exact rfl
  unfold pre
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The third pass's later points. -/
theorem runE (f15 : Buf (Elt F) ((c : Thread nD τ).loc cc0_scratch0)) (f16 : Buf (Elt F) ((c : Thread nD τ).loc cc0_scratch1))
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1) (h7 : ¬ k0_cond7 i = 1#1) (h8 : k0_cond8 i = 1#1)
    (K : PUnit → sProp 𝕄) :
    iprop(pre (U := U) arg2 arg3 arg4 arg5 arg6 arg7 arg8 arg9 arg10 arg11 arg12 arg13 arg14 x2 x3 x4 x5 x6 x7 x8 x9 x10 x11 x12 x13 x14 c f15 f16
      ∗ (∀ g15 g16, ⌜g15 = f15⌝ -∗ ⌜g16 = f16⌝ -∗ pre (U := U) arg2 arg3 arg4 arg5 arg6 arg7 arg8 arg9 arg10 arg11 arg12 arg13 arg14 x2 x3 x4 x5 x6 x7 x8 x9 x10 (k0_pay12 (k0_pay9 x4 (slab c i h2 f15) x7)) (k0_pay11 (k0_pay10 x4 (slab c i h2 f15) x7 x8) x9) (fun _ => k0_pay2 (k0_pay13 (k0_pay9 x4 (slab c i h2 f15) x7)) (smem0 x13)) (fun _ => k0_pay5 (k0_pay7 x4 (slab c i h2 f15)) (u1rows c i h2 h6 f16) x10 (smem0 x14)) c g15 g16 -∗ K ⟨⟩))
    ⊢ wp frame (wpE (defs₀ (F := F)) Variants.none c none) E
        (cc0__k1_body i arg2 harg2 arg3 harg3 arg4 harg4 arg5 harg5 arg6 harg6 arg7 harg7 arg8 harg8 arg9 harg9 arg10 harg10 arg11 harg11 arg12 harg12 arg13 harg13 arg14 harg14 (Memref.whole cc0_scratch0) (Memref.isWhole_whole _) (Memref.whole cc0_scratch1) (Memref.isWhole_whole _)) K := by
  simp only [cc0__k1_body_eq_skeleton]; unfold cc0__k1_body_skel
  simp only [k0_part1_eq_skeleton]; unfold k0_part1_skel
  simp only [k0_part2_eq_skeleton]; unfold k0_part2_skel
  iintro ⟨Hp, Hk⟩
  ihave Hp := (pre_open (U := U) arg2 arg3 arg4 arg5 arg6 arg7 arg8 arg9 arg10 arg11 arg12 arg13 arg14 x2 x3 x4 x5 x6 x7 x8 x9 x10 x11 x12 x13 x14 c f15 f16) $$ Hp
  icases Hp with ⟨O2, O3, O4, O5, O6, O7, O8, O9, O10, O11, O12, O13, O14, H15, H16⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  ihave O4 := (owns_open (U := U) (c : Thread nD τ) arg4 x4) $$ O4; icases O4 with ⟨%f4, %hf4, H4⟩
  ihave O5 := (owns_open (U := U) (c : Thread nD τ) arg5 x5) $$ O5; icases O5 with ⟨%f5, %hf5, H5⟩
  ihave O6 := (owns_open (U := U) (c : Thread nD τ) arg6 x6) $$ O6; icases O6 with ⟨%f6, %hf6, H6⟩
  ihave O7 := (owns_open (U := U) (c : Thread nD τ) arg7 x7) $$ O7; icases O7 with ⟨%f7, %hf7, H7⟩
  ihave O8 := (owns_open (U := U) (c : Thread nD τ) arg8 x8) $$ O8; icases O8 with ⟨%f8, %hf8, H8⟩
  ihave O9 := (owns_open (U := U) (c : Thread nD τ) arg9 x9) $$ O9; icases O9 with ⟨%f9, %hf9, H9⟩
  ihave O10 := (owns_open (U := U) (c : Thread nD τ) arg10 x10) $$ O10; icases O10 with ⟨%f10, %hf10, H10⟩
  ihave O11 := (owns_open (U := U) (c : Thread nD τ) arg11 x11) $$ O11; icases O11 with ⟨%f11, %hf11, H11⟩
  ihave O12 := (owns_open (U := U) (c : Thread nD τ) arg12 x12) $$ O12; icases O12 with ⟨%f12, %hf12, H12⟩
  ihave O13 := (owns_open (U := U) (c : Thread nD τ) arg13 x13) $$ O13; icases O13 with ⟨%f13, %hf13, H13⟩
  ihave O14 := (owns_open (U := U) (c : Thread nD τ) arg14 x14) $$ O14; icases O14 with ⟨%f14, %hf14, H14⟩
  sl_exec
  sl_step
  sl_exec
  sl_step
  sl_exec
  sl_step
  obtain rfl : arg4.view.readAt (Elt F) (Rect.unit (s := S1x1x512x4096) ![0, 0, 0, 0] S1x1x512x4096.size inb_S1x1x512x4096_S1x1x512x4096_0_0_0_0).toLoadRect f4 = x4 := (View.readAt_full arg4.view f4 inb_S1x1x512x4096_S1x1x512x4096_0_0_0_0).trans hf4
  obtain rfl : arg7.view.readAt (Elt F) (Rect.unit (s := S1x1x32x128) ![0, 0, 0, 0] S1x1x32x128.size inb_S1x1x32x128_S1x1x32x128_0_0_0_0).toLoadRect f7 = x7 := (View.readAt_full arg7.view f7 inb_S1x1x32x128_S1x1x32x128_0_0_0_0).trans hf7
  obtain rfl : arg8.view.readAt (Elt F) (Rect.unit (s := S128x128) ![0, 0] S128x128.size inb_S128x128_S128x128_0_0).toLoadRect f8 = x8 := (View.readAt_full arg8.view f8 inb_S128x128_S128x128_0_0).trans hf8
  obtain rfl : arg9.view.readAt (Elt F) (Rect.unit (s := S1x512x2) ![0, 0, 0] S1x512x2.size inb_S1x512x2_S1x512x2_0_0_0).toLoadRect f9 = x9 := (View.readAt_full arg9.view f9 inb_S1x512x2_S1x512x2_0_0_0).trans hf9
  obtain rfl : arg10.view.readAt (Elt F) (Rect.unit (s := S1x512x128) ![0, 0, 0] S1x512x128.size inb_S1x512x128_S1x512x128_0_0_0).toLoadRect f10 = x10 := (View.readAt_full arg10.view f10 inb_S1x512x128_S1x512x128_0_0_0).trans hf10
  obtain rfl : arg13.view.readAt (Elt F) (Rect.unit (s := S1x1) ![0, 0] S1x1.size inb_S1x1_S1x1_0_0).toLoadRect f13 = x13 := (View.readAt_full arg13.view f13 inb_S1x1_S1x1_0_0).trans hf13
  obtain rfl : arg14.view.readAt (Elt F) (Rect.unit (s := S1x1) ![0, 0] S1x1.size inb_S1x1_S1x1_0_0).toLoadRect f14 = x14 := (View.readAt_full arg14.view f14 inb_S1x1_S1x1_0_0).trans hf14
  ihave H2 := (owns_back (U := U) (c : Thread nD τ) arg2 _ f2 hf2) $$ H2
  ihave H3 := (owns_back (U := U) (c : Thread nD τ) arg3 _ f3 hf3) $$ H3
  ihave H4 := (owns_back (U := U) (c : Thread nD τ) arg4 _ f4 hf4) $$ H4
  ihave H5 := (owns_back (U := U) (c : Thread nD τ) arg5 _ f5 hf5) $$ H5
  ihave H6 := (owns_back (U := U) (c : Thread nD τ) arg6 _ f6 hf6) $$ H6
  ihave H7 := (owns_back (U := U) (c : Thread nD τ) arg7 _ f7 hf7) $$ H7
  ihave H8 := (owns_back (U := U) (c : Thread nD τ) arg8 _ f8 hf8) $$ H8
  ihave H9 := (owns_back (U := U) (c : Thread nD τ) arg9 _ f9 hf9) $$ H9
  ihave H10 := (owns_back (U := U) (c : Thread nD τ) arg10 _ f10 hf10) $$ H10
  ihave H11 := (owns_stored (U := U) (c : Thread nD τ) arg11 f11 inb_S1x512x32_S1x512x32_0_0_0 _) $$ H11
  ihave H12 := (owns_stored (U := U) (c : Thread nD τ) arg12 f12 inb_S1x512x2_S1x512x2_0_0_0 _) $$ H12
  ihave H13 := (owns_stored (U := U) (c : Thread nD τ) arg13 f13 inb_S1x1_S1x1_0_0 _) $$ H13
  ihave H14 := (owns_stored (U := U) (c : Thread nD τ) arg14 f14 inb_S1x1_S1x1_0_0 _) $$ H14
  iapply Hk $$ %f15 %f16 [] [] [H2 H3 H4 H5 H6 H7 H8 H9 H10 H11 H12 H13 H14 H15 H16]
  · ipureintro; exact rfl
  · ipureintro; exact rfl
  unfold pre
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.KernelIdeal.Body
end
-- ==== Proof.KernelIdeal.Data0.lean ====
module

public import proofs.«01_k».proof.Proof.KernelIdeal.Body0
public import proofs.«01_k».proof.Proof.Gen.KernelIdeal.Points
public import Idealize.ShloMosaic.Lib.Pipeline.DatRel
public import Idealize.ShloMosaic.Lib.Pipeline.ValueKit

@[expose] public section

set_option maxRecDepth 16384

noncomputable section

/-! What the first call's buffers hold from point to point. The grid has 24 points, three passes of eight: point `t` is pass `t / 8`, block `t % 8`. -/
namespace Cert.KernelIdeal.Data

open Cert.KernelIdeal Cert.KernelIdeal.Gen Cert.KernelIdeal.Body
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

variable (c : Dev nD) (A : (w : Fin cfg0.W) → Buf (Elt F) ((cfg0.win w).arr.view.loc (c.tc : Thread nD τ)))

/-- The `n`-th point of the grid. -/
def pt (n : ℕ) : Fin cfg0.N := ⟨n % 24, by rw [show cfg0.N = 24 from N_0]; exact Nat.mod_lt _ (by decide)⟩

theorem pt_val (t : Fin cfg0.N) : pt t.val = t :=
  Fin.ext (Nat.mod_eq_of_lt (lt_of_lt_of_eq t.isLt N_0))

/-- A window's block at a point, read of the window's array. -/
def iblk (w : Fin cfg0.W) (t : Fin cfg0.N) : ((cfg0.win w).xblock (cfg0.grid.coords t)).Idx → Elt F (cfg0.win w).elt :=
  ((cfg0.win w).blk t).view.read (Elt F) (A w)

/-- The point's block of the first scratch. -/
def hblk (t : Fin cfg0.N) : Vec F S1x512x256 .f32 := k0_pay1 (iblk c A 3 t) (iblk c A 4 t) (iblk c A 0 t) (iblk c A 1 t)

/-- The first scratch once filled: plane `g`, row `r` is computed at point `8 g + r / 512`. -/
def hcatV : S2x4096x256.Idx → Elt F .f32 := fun i =>
  hblk c A (pt ((i 0).val * 8 + (i 1).val / 512)) (ix3 0 ⟨(i 1).val % 512, Nat.mod_lt _ (by decide)⟩ (i 2))

/-- The plane the point's second half reads: the plane `t / 8 - 1`. -/
def slabAt (t : Fin cfg0.N) : Vec F S1x4096x256 .f32 := fun i => hcatV c A (ix3 ⟨(t.val / 8 - 1) % 2, Nat.mod_lt _ (by decide)⟩ (i 1) (i 2))

/-- The rows the point computes from the plane it reads. -/
def ublk (t : Fin cfg0.N) : FVec F S512x128 .f32 := k0_pay7 (iblk c A 2 t) (slabAt c A t)

/-- The point's assignment of its rows to the clusters. -/
def hT (t : Fin cfg0.N) : FVec F S512x32 .f32 := k0_pay9 (iblk c A 2 t) (slabAt c A t) (iblk c A 5 t)

/-- The second scratch once filled: row `r` is computed at point `8 + r / 512`. -/
def u1V : S4096x128.Idx → Elt F .f32 := fun i =>
  k0_pay3 (ublk c A (pt (8 + (i 0).val / 512))) (ix2 ⟨(i 0).val % 512, Nat.mod_lt _ (by decide)⟩ (i 1))

/-- The rows of the second scratch the third pass reads at a point. -/
def u1At (t : Fin cfg0.N) : Vec F S512x128 .f32 := fun i => u1V c A (ix2 ⟨(t.val % 8) * 512 + (i 0).val, by have := (i 0).isLt; have h : (i 0).val < 512 := this; omega⟩ (i 1))

/-- The point's block of the first result. -/
def out9 (t : Fin cfg0.N) : Vec F S1x512x32 .bf16 := k0_pay12 (hT c A t)

/-- The point's block of the second result. -/
def out10 (t : Fin cfg0.N) : Vec F S1x512x2 .f32 := k0_pay11 (k0_pay10 (iblk c A 2 t) (slabAt c A t) (iblk c A 5 t) (iblk c A 6 t)) (iblk c A 7 t)

/-- The third result's running sum after `k + 1` points of the second and third pass. -/
def osumV : ℕ → F .f32
  | 0 => k0_pay13 (hT c A (pt 8))
  | k + 1 => k0_pay2 (k0_pay13 (hT c A (pt (9 + k)))) (osumV k)

/-- The fourth result's running sum after `k + 1` points of the third pass. -/
def rsumV : ℕ → F .f32
  | 0 => k0_pay4 (ublk c A (pt 16)) (u1At c A (pt 16)) (iblk c A 8 (pt 16))
  | k + 1 => k0_pay5 (ublk c A (pt (17 + k))) (u1At c A (pt (17 + k))) (iblk c A 8 (pt (17 + k))) (rsumV k)

/-- The first scratch agrees with `hcatV` on the blocks stored before point `n`. -/
def HcatInv (n : ℕ) (f : S2x4096x256.Idx → Elt F .f32) : Prop := ∀ i : S2x4096x256.Idx, (i 0).val * 8 + (i 1).val / 512 < n → f i = hcatV c A i

/-- The second scratch agrees with `u1V` on the blocks stored before point `n`. -/
def U1Inv (n : ℕ) (f : S4096x128.Idx → Elt F .f32) : Prop := ∀ i : S4096x128.Idx, 8 + (i 0).val / 512 < n → f i = u1V c A i

/-- The other call's scoped buffers, each at some contents. -/
def others : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg2_0), ((c : Thread nD τ).loc cc1_stg2_0) ↦{fullShare} f))

/-- Before point `n`: the two scratch buffers as far as they are filled. -/
def inv (n : ℕ) : sProp 𝕄 :=
  iprop(∃ fh fu, ⌜HcatInv c A n fh⌝ ∗ ⌜U1Inv c A n fu⌝ ∗ (((c : Thread nD τ).loc cc0_scratch0) ↦{fullShare} fh) ∗ (((c : Thread nD τ).loc cc0_scratch1) ↦{fullShare} fu) ∗ others (U := U) c)

/-- The windows whose contents are held to a predicate: the four results. -/
def fgt : Fin cfg0.W → Bool := fun w => Nat.ble 9 w.val

/-- What a result's window holds after a point: from the pass on in which it is written, the point's block or running sum. -/
def Rl : (w : Fin cfg0.W) → Fin cfg0.N → ((cfg0.win w).block.Idx → Elt F (cfg0.win w).elt) → Prop
  | ⟨9, _⟩ => fun t X => 8 ≤ t.val → X = out9 c A t
  | ⟨10, _⟩ => fun t X => 8 ≤ t.val → X = out10 c A t
  | ⟨11, _⟩ => fun t X => 8 ≤ t.val → X = fun _ => osumV c A (t.val - 8)
  | ⟨12, _⟩ => fun t X => 16 ≤ t.val → X = fun _ => rsumV c A (t.val - 16)
  | _ => fun _ _ => True

/-- The call's proof data: inputs left in place, the results held to `Rl`. -/
def dat0 : Dat τ (Elt F) Unit ℕ U ℕ cfg0 c where
  A := A
  after := fun w t => match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => iblk c A 5 t
    | ⟨6, _⟩ => iblk c A 6 t
    | ⟨7, _⟩ => iblk c A 7 t
    | ⟨8, _⟩ => iblk c A 8 t
    | ⟨9, _⟩ => out9 c A t
    | ⟨10, _⟩ => out10 c A t
    | ⟨11, _⟩ => fun _ => osumV c A (t.val - 8)
    | ⟨12, _⟩ => fun _ => rsumV c A (t.val - 16)
    | ⟨_ + 13, h⟩ => absurd h (Nat.not_lt.2 (Nat.le_add_left _ _))
  Φ := fun t => inv c A t.val
  q := fun _ => fullShare
  owed := fun _ => 0

end Cert.KernelIdeal.Data
-- ==== Proof.KernelIdeal.Step0.lean ====
module

public import proofs.«01_k».proof.Proof.KernelIdeal.Data0

@[expose] public section

set_option maxRecDepth 16384

noncomputable section

/-! What one point does to the two scratch buffers, and what it reads of them. -/
namespace Cert.KernelIdeal.Data

open Cert.KernelIdeal Cert.KernelIdeal.Gen Cert.KernelIdeal.Body
open Idealize.ShloMosaic Idealize.ShloMosaic.TcCoe Idealize.ShloMosaic.Pipeline
open Idealize.SL Idealize.SL.RA Idealize.SL.BI
open Idealize.SL.Sem

variable {F : FTy → Type} [FloatOps F] [Named F]

theorem coord_pass : ∀ t : Fin grid0.N, ((grid0.coords t) 0).val = t.val / 8 := by decide +kernel
theorem coord_block : ∀ t : Fin grid0.N, ((grid0.coords t) 1).val = t.val % 8 := by decide +kernel
theorem cond1_iff : ∀ t : Fin grid0.N, k0_cond1 (grid0.coords t) = 1#1 ↔ t.val < 16 := by decide +kernel
theorem cond2_iff : ∀ t : Fin grid0.N, k0_cond2 (grid0.coords t) = 1#1 ↔ 8 ≤ t.val := by decide +kernel
theorem cond3_iff : ∀ t : Fin grid0.N, k0_cond3 (grid0.coords t) = 1#1 ↔ t.val = 8 := by decide +kernel
theorem cond4_iff : ∀ t : Fin grid0.N, k0_cond4 (grid0.coords t) = 1#1 ↔ (16 ≤ t.val ∨ t.val % 8 ≠ 0) := by decide +kernel
theorem cond5_iff : ∀ t : Fin grid0.N, k0_cond5 (grid0.coords t) = 1#1 ↔ (8 ≤ t.val ∧ t.val < 16) := by decide +kernel
theorem cond6_iff : ∀ t : Fin grid0.N, k0_cond6 (grid0.coords t) = 1#1 ↔ 16 ≤ t.val := by decide +kernel
theorem cond7_iff : ∀ t : Fin grid0.N, k0_cond7 (grid0.coords t) = 1#1 ↔ t.val % 8 = 0 := by decide +kernel
theorem cond8_iff : ∀ t : Fin grid0.N, k0_cond8 (grid0.coords t) = 1#1 ↔ t.val % 8 ≠ 0 := by decide +kernel
theorem off2_val : ∀ t : Fin grid0.N, 8 ≤ t.val → k0_off2 (grid0.coords t) = ![t.val / 8 - 1, 0, 0] := by decide +kernel

theorem pt_lt (t : Fin cfg0.N) : t.val < 24 := lt_of_lt_of_eq t.isLt N_0

variable (c : Dev nD) (A : (w : Fin cfg0.W) → Buf (Elt F) ((cfg0.win w).arr.view.loc (c.tc : Thread nD τ)))

/-- A store of a point's block of the first scratch, read inside the block. -/
theorem write15_mem (t : Fin cfg0.N) (h1 : k0_cond1 (grid0.coords t) = 1#1) (f : Buf (Elt F) ((c : Thread nD τ).loc cc0_scratch0)) (w : S1x512x256.Idx → Elt F .f32)
    (i : S2x4096x256.Idx) (he : (i 0).val * 8 + (i 1).val / 512 = t.val) :
    (Memref.whole cc0_scratch0).view.read (Elt F) ((Memref.whole cc0_scratch0).view.writes (Elt F) f
      [⟨Rect.unit (s := S2x4096x256) (k0_off1 (grid0.coords t)) S1x512x256.size (k0_off1_inb (grid0.coords t) h1), w⟩]) i
      = w (ix3 (0 : Fin 1) ⟨(i 1).val % 512, Nat.mod_lt _ (by decide)⟩ (⟨(i 2).val, (i 2).isLt⟩ : Fin 256)) := by
  have ht : t.val < 16 := (cond1_iff t).mp h1
  have hp : ((grid0.coords t) 0).val = t.val / 8 := coord_pass t
  have hn : ((grid0.coords t) 1).val = t.val % 8 := coord_block t
  have i0 : (i 0).val < 2 := (i 0).isLt
  have i1 : (i 1).val < 4096 := (i 1).isLt
  refine View.read_writes_cons_unit_of_mem (Memref.whole cc0_scratch0).view f _ w [] i _ (k0_off1_eq (grid0.coords t)) ?_
  intro a
  match a with
  | ⟨0, _⟩ => show (i 0).val = min ((grid0.coords t) 0).val 1 + 0; omega
  | ⟨1, _⟩ => show (i 1).val = 512 * ((grid0.coords t) 1).val + (i 1).val % 512; omega
  | ⟨2, _⟩ => show (i 2).val = 0 + (i 2).val; omega

/-- A store of a point's block of the first scratch, read before the block. -/
theorem write15_not (t : Fin cfg0.N) (h1 : k0_cond1 (grid0.coords t) = 1#1) (f : Buf (Elt F) ((c : Thread nD τ).loc cc0_scratch0)) (w : S1x512x256.Idx → Elt F .f32)
    (i : S2x4096x256.Idx) (he : (i 0).val * 8 + (i 1).val / 512 < t.val) :
    (Memref.whole cc0_scratch0).view.read (Elt F) ((Memref.whole cc0_scratch0).view.writes (Elt F) f
      [⟨Rect.unit (s := S2x4096x256) (k0_off1 (grid0.coords t)) S1x512x256.size (k0_off1_inb (grid0.coords t) h1), w⟩]) i
      = (Memref.whole cc0_scratch0).view.read (Elt F) f i := by
  have ht : t.val < 16 := (cond1_iff t).mp h1
  have hp : ((grid0.coords t) 0).val = t.val / 8 := coord_pass t
  have hn : ((grid0.coords t) 1).val = t.val % 8 := coord_block t
  have i0 : (i 0).val < 2 := (i 0).isLt
  have i1 : (i 1).val < 4096 := (i 1).isLt
  by_cases h0 : (i 0).val = t.val / 8
  · refine View.read_writes_cons_unit_of_not_mem (Memref.whole cc0_scratch0).view f _ w [] i (k0_off1_eq (grid0.coords t)) (1 : Fin 3) ?_
    show (i 1).val < 512 * ((grid0.coords t) 1).val ∨ 512 * ((grid0.coords t) 1).val + 512 ≤ (i 1).val
    omega
  · refine View.read_writes_cons_unit_of_not_mem (Memref.whole cc0_scratch0).view f _ w [] i (k0_off1_eq (grid0.coords t)) (0 : Fin 3) ?_
    show (i 0).val < min ((grid0.coords t) 0).val 1 ∨ min ((grid0.coords t) 0).val 1 + 1 ≤ (i 0).val
    omega

/-- A point of the first two passes fills its block of the first scratch. -/
theorem hcat_step (t : Fin cfg0.N) (h1 : k0_cond1 (grid0.coords t) = 1#1) (f g : Buf (Elt F) ((c : Thread nD τ).loc cc0_scratch0))
    (hg : g = put15 (iblk c A 0 t) (iblk c A 1 t) (iblk c A 3 t) (iblk c A 4 t) c (grid0.coords t) h1 f)
    (hf : HcatInv c A t.val f) : HcatInv c A (t.val + 1) g := by
  intro i hi
  have e : g i = (Memref.whole cc0_scratch0).view.read (Elt F) ((Memref.whole cc0_scratch0).view.writes (Elt F) f
      [⟨Rect.unit (s := S2x4096x256) (k0_off1 (grid0.coords t)) S1x512x256.size (k0_off1_inb (grid0.coords t) h1), hblk c A t⟩]) i := by
    have e' : g = (Memref.whole cc0_scratch0).view.writes (Elt F) f
      [⟨Rect.unit (s := S2x4096x256) (k0_off1 (grid0.coords t)) S1x512x256.size (k0_off1_inb (grid0.coords t) h1), hblk c A t⟩] := hg
    rw [← e']; rfl
  by_cases he : (i 0).val * 8 + (i 1).val / 512 = t.val
  · have hpt : pt ((i 0).val * 8 + (i 1).val / 512) = t := by rw [he]; exact pt_val t
    rw [e]
    refine (write15_mem c t h1 f (hblk c A t) i he).trans ?_
    unfold hcatV; rw [hpt]; rfl
  · have hlt : (i 0).val * 8 + (i 1).val / 512 < t.val := by omega
    rw [e]
    exact (write15_not c t h1 f (hblk c A t) i hlt).trans (hf i hlt)

/-- The second pass's points find the first plane filled, the third pass's the second. -/
theorem slab_eq (t : Fin cfg0.N) (h2 : k0_cond2 (grid0.coords t) = 1#1) (n : ℕ) (hn : min 16 (t.val / 8 * 8) ≤ n) (f : S2x4096x256.Idx → Elt F .f32)
    (hf : HcatInv c A n f) : slab c (grid0.coords t) h2 f = slabAt c A t := by
  have h8 : 8 ≤ t.val := (cond2_iff t).mp h2
  have h24 := pt_lt t
  funext y
  have y0 : (y 0).val < 1 := (y 0).isLt
  have y1 : (y 1).val < 4096 := (y 1).isLt
  have y2 : (y 2).val < 256 := (y 2).isLt
  unfold slab slabAt
  rw [View.readAt_unit (Memref.whole cc0_scratch0).view f _ (off2_val t h8)
    (by rw [← off2_val t h8]; exact k0_off2_inb (grid0.coords t) h2)]
  have e : (Rect.unit (s := S2x4096x256) ![t.val / 8 - 1, 0, 0] S1x4096x256.size (by rw [← off2_val t h8]; exact k0_off2_inb (grid0.coords t) h2)).emb y
      = ix3 ⟨(t.val / 8 - 1) % 2, Nat.mod_lt _ (by decide)⟩ (⟨(y 1).val, y1⟩ : Fin 4096) (⟨(y 2).val, y2⟩ : Fin 256) := by
    funext a
    apply Fin.ext
    match a with
    | ⟨0, _⟩ => show t.val / 8 - 1 + 1 * (y 0).val = (t.val / 8 - 1) % 2; omega
    | ⟨1, _⟩ => show 0 + 1 * (y 1).val = (y 1).val; omega
    | ⟨2, _⟩ => show 0 + 1 * (y 2).val = (y 2).val; omega
  show f _ = _
  rw [e]
  apply hf
  show (t.val / 8 - 1) % 2 * 8 + (y 1).val / 512 < n
  omega

/-- A store of a point's block of the second scratch, read inside the block. -/
theorem write16_mem (t : Fin cfg0.N) (h2 : k0_cond2 (grid0.coords t) = 1#1) (h5 : k0_cond5 (grid0.coords t) = 1#1) (f : Buf (Elt F) ((c : Thread nD τ).loc cc0_scratch1)) (w : S512x128.Idx → Elt F .f32)
    (i : S4096x128.Idx) (he : 8 + (i 0).val / 512 = t.val) :
    (Memref.whole cc0_scratch1).view.read (Elt F) ((Memref.whole cc0_scratch1).view.writes (Elt F) f
      [⟨Rect.unit (s := S4096x128) (k0_off3 (grid0.coords t)) S512x128.size (k0_off3_inb (grid0.coords t) h2 h5), w⟩]) i
      = w (ix2 ⟨(i 0).val % 512, Nat.mod_lt _ (by decide)⟩ (⟨(i 1).val, (i 1).isLt⟩ : Fin 128)) := by
  have ht := (cond5_iff t).mp h5
  have hn : ((grid0.coords t) 1).val = t.val % 8 := coord_block t
  have i0 : (i 0).val < 4096 := (i 0).isLt
  refine View.read_writes_cons_unit_of_mem (Memref.whole cc0_scratch1).view f _ w [] i _ (k0_off3_eq (grid0.coords t)) ?_
  intro a
  match a with
  | ⟨0, _⟩ => show (i 0).val = 512 * ((grid0.coords t) 1).val + (i 0).val % 512; omega
  | ⟨1, _⟩ => show (i 1).val = 0 + (i 1).val; omega

/-- A store of a point's block of the second scratch, read before the block. -/
theorem write16_not (t : Fin cfg0.N) (h2 : k0_cond2 (grid0.coords t) = 1#1) (h5 : k0_cond5 (grid0.coords t) = 1#1) (f : Buf (Elt F) ((c : Thread nD τ).loc cc0_scratch1)) (w : S512x128.Idx → Elt F .f32)
    (i : S4096x128.Idx) (he : 8 + (i 0).val / 512 < t.val) :
    (Memref.whole cc0_scratch1).view.read (Elt F) ((Memref.whole cc0_scratch1).view.writes (Elt F) f
      [⟨Rect.unit (s := S4096x128) (k0_off3 (grid0.coords t)) S512x128.size (k0_off3_inb (grid0.coords t) h2 h5), w⟩]) i
      = (Memref.whole cc0_scratch1).view.read (Elt F) f i := by
  have ht := (cond5_iff t).mp h5
  have hn : ((grid0.coords t) 1).val = t.val % 8 := coord_block t
  have i0 : (i 0).val < 4096 := (i 0).isLt
  refine View.read_writes_cons_unit_of_not_mem (Memref.whole cc0_scratch1).view f _ w [] i (k0_off3_eq (grid0.coords t)) (0 : Fin 2) ?_
  show (i 0).val < 512 * ((grid0.coords t) 1).val ∨ 512 * ((grid0.coords t) 1).val + 512 ≤ (i 0).val
  omega

/-- A point of the second pass fills its block of the second scratch. -/
theorem u1_step (t : Fin cfg0.N) (h2 : k0_cond2 (grid0.coords t) = 1#1) (h5 : k0_cond5 (grid0.coords t) = 1#1) (f g : Buf (Elt F) ((c : Thread nD τ).loc cc0_scratch1))
    (hg : g = put16 (iblk c A 2 t) c (grid0.coords t) h2 h5 (slabAt c A t) f)
    (hf : U1Inv c A t.val f) : U1Inv c A (t.val + 1) g := by
  intro i hi
  have e : g i = (Memref.whole cc0_scratch1).view.read (Elt F) ((Memref.whole cc0_scratch1).view.writes (Elt F) f
      [⟨Rect.unit (s := S4096x128) (k0_off3 (grid0.coords t)) S512x128.size (k0_off3_inb (grid0.coords t) h2 h5), k0_pay3 (ublk c A t)⟩]) i := by
    have e' : g = (Memref.whole cc0_scratch1).view.writes (Elt F) f
      [⟨Rect.unit (s := S4096x128) (k0_off3 (grid0.coords t)) S512x128.size (k0_off3_inb (grid0.coords t) h2 h5), k0_pay3 (ublk c A t)⟩] := hg
    rw [← e']; rfl
  by_cases he : 8 + (i 0).val / 512 = t.val
  · have hpt : pt (8 + (i 0).val / 512) = t := by rw [he]; exact pt_val t
    rw [e]
    refine (write16_mem c t h2 h5 f (k0_pay3 (ublk c A t)) i he).trans ?_
    unfold u1V; rw [hpt]; rfl
  · have hlt : 8 + (i 0).val / 512 < t.val := by omega
    rw [e]
    exact (write16_not c t h2 h5 f (k0_pay3 (ublk c A t)) i hlt).trans (hf i hlt)

/-- The third pass's points find the second scratch filled. -/
theorem u1rows_eq (t : Fin cfg0.N) (h2 : k0_cond2 (grid0.coords t) = 1#1) (h6 : k0_cond6 (grid0.coords t) = 1#1) (f : S4096x128.Idx → Elt F .f32)
    (hf : U1Inv c A t.val f) : u1rows c (grid0.coords t) h2 h6 f = u1At c A t := by
  have h16 : 16 ≤ t.val := (cond6_iff t).mp h6
  have h24 := pt_lt t
  have hn : ((grid0.coords t) 1).val = t.val % 8 := coord_block t
  funext y
  have y0 : (y 0).val < 512 := (y 0).isLt
  have y1 : (y 1).val < 128 := (y 1).isLt
  unfold u1rows u1At
  rw [View.readAt_unit (Memref.whole cc0_scratch1).view f _ (k0_off4_eq (grid0.coords t))
    (by rw [← k0_off4_eq (grid0.coords t)]; exact k0_off4_inb (grid0.coords t) h2 h6)]
  have e : (Rect.unit (s := S4096x128) ![512 * ((grid0.coords t) 1).val, 0] S512x128.size (by rw [← k0_off4_eq (grid0.coords t)]; exact k0_off4_inb (grid0.coords t) h2 h6)).emb y
      = ix2 ⟨t.val % 8 * 512 + (y 0).val, by omega⟩ (⟨(y 1).val, y1⟩ : Fin 128) := by
    funext a
    apply Fin.ext
    match a with
    | ⟨0, _⟩ => show 512 * ((grid0.coords t) 1).val + 1 * (y 0).val = t.val % 8 * 512 + (y 0).val; omega
    | ⟨1, _⟩ => show 0 + 1 * (y 1).val = (y 1).val; omega
  show f _ = _
  rw [e]
  apply hf
  show 8 + (t.val % 8 * 512 + (y 0).val) / 512 < t.val
  omega

/-- From the third pass on the first scratch is whole. -/
theorem hcat_mono (n m : ℕ) (hn : 16 ≤ n) (f : S2x4096x256.Idx → Elt F .f32) (hf : HcatInv c A n f) : HcatInv c A m f := by
  intro i hi
  have i0 : (i 0).val < 2 := (i 0).isLt
  have i1 : (i 1).val < 4096 := (i 1).isLt
  exact hf i (by omega)

theorem u1_mono (n m : ℕ) (hn : 16 ≤ n ∨ m ≤ 8) (f : S4096x128.Idx → Elt F .f32) (hf : U1Inv c A n f) : U1Inv c A m f := by
  intro i hi
  have i0 : (i 0).val < 4096 := (i 0).isLt
  exact hf i (by omega)

end Cert.KernelIdeal.Data
-- ==== Proof.KernelIdeal.Oblig0.lean ====
module

public import proofs.«01_k».proof.Proof.KernelIdeal.Step0

@[expose] public section

set_option maxRecDepth 16384

noncomputable section

/-! The first call's body at any point: from the scratch buffers filled so far to one block more. -/
namespace Cert.KernelIdeal.Data

open Cert.KernelIdeal Cert.KernelIdeal.Gen Cert.KernelIdeal.Body
open Idealize.ShloMosaic Idealize.ShloMosaic.TcCoe Idealize.ShloMosaic.Pipeline Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

variable (c : Dev nD) (A : (w : Fin cfg0.W) → Buf (Elt F) ((cfg0.win w).arr.view.loc (c.tc : Thread nD τ)))

/-- The point's windows: the inputs at their blocks, the results at any contents. -/
def wins (t : Fin cfg0.N) (Y9 : Vec F S1x512x32 .bf16) (Y10 : Vec F S1x512x2 .f32) (Y11 : Vec F S1x1 .f32) (Y12 : Vec F S1x1 .f32) : sProp 𝕄 :=
  iprop(owns (c : Thread nD τ) (st0_0 t) fullShare (iblk c A 0 t) ∗ owns (c : Thread nD τ) (st0_1 t) fullShare (iblk c A 1 t) ∗ owns (c : Thread nD τ) (st0_2 t) fullShare (iblk c A 2 t) ∗ owns (c : Thread nD τ) (st0_3 t) fullShare (iblk c A 3 t) ∗ owns (c : Thread nD τ) (st0_4 t) fullShare (iblk c A 4 t) ∗ owns (c : Thread nD τ) (st0_5 t) fullShare (iblk c A 5 t) ∗ owns (c : Thread nD τ) (st0_6 t) fullShare (iblk c A 6 t) ∗ owns (c : Thread nD τ) (st0_7 t) fullShare (iblk c A 7 t) ∗ owns (c : Thread nD τ) (st0_8 t) fullShare (iblk c A 8 t) ∗ owns (c : Thread nD τ) (st0_9 t) fullShare Y9 ∗ owns (c : Thread nD τ) (st0_10 t) fullShare Y10 ∗ owns (c : Thread nD τ) (st0_11 t) fullShare Y11 ∗ owns (c : Thread nD τ) (st0_12 t) fullShare Y12)

/-- What a point leaves: one block more, and its results' windows as the predicate says. -/
def post0 (t : Fin cfg0.N) : sProp 𝕄 :=
  iprop(inv (U := U) c A (t.val + 1) ∗ ∃ X9 X10 X11 X12, ⌜Rl c A 9 t X9 ∧ Rl c A 10 t X10 ∧ Rl c A 11 t X11 ∧ Rl c A 12 t X12⌝ ∗ wins (U := U) c A t X9 X10 X11 X12)

/-- The third result's running sum goes on by the point's part. -/
theorem osum_next (t : Fin cfg0.N) (ht : 8 < t.val) (Y : Vec F S1x1 .f32) (hY : Y = fun _ => osumV c A (t.val - 9)) :
    (fun _ => k0_pay2 (k0_pay13 (hT c A t)) (smem0 Y) : Vec F S1x1 .f32) = fun _ => osumV c A (t.val - 8) := by
  have e : t.val - 8 = (t.val - 9) + 1 := by omega
  have e' : pt (9 + (t.val - 9)) = t := by rw [show 9 + (t.val - 9) = t.val by omega]; exact pt_val t
  subst hY
  rw [e]
  show _ = fun _ => k0_pay2 (k0_pay13 (hT c A (pt (9 + (t.val - 9))))) (osumV c A (t.val - 9))
  rw [e']
  rfl

/-- The fourth result's running sum begins with the point's part. -/
theorem rsum_first (t : Fin cfg0.N) (ht : t.val = 16) :
    (fun _ => k0_pay4 (ublk c A t) (u1At c A t) (iblk c A 8 t) : Vec F S1x1 .f32) = fun _ => rsumV c A (t.val - 16) := by
  have e : t.val - 16 = 0 := by omega
  have e' : pt 16 = t := by rw [← ht]; exact pt_val t
  rw [e]
  show _ = fun _ => k0_pay4 (ublk c A (pt 16)) (u1At c A (pt 16)) (iblk c A 8 (pt 16))
  rw [e']

/-- The fourth result's running sum goes on by the point's part. -/
theorem rsum_next (t : Fin cfg0.N) (ht : 16 < t.val) (Y : Vec F S1x1 .f32) (hY : Y = fun _ => rsumV c A (t.val - 17)) :
    (fun _ => k0_pay5 (ublk c A t) (u1At c A t) (iblk c A 8 t) (smem0 Y) : Vec F S1x1 .f32) = fun _ => rsumV c A (t.val - 16) := by
  have e : t.val - 16 = (t.val - 17) + 1 := by omega
  have e' : pt (17 + (t.val - 17)) = t := by rw [show 17 + (t.val - 17) = t.val by omega]; exact pt_val t
  subst hY
  rw [e]
  show _ = fun _ => k0_pay5 (ublk c A (pt (17 + (t.val - 17)))) (u1At c A (pt (17 + (t.val - 17)))) (iblk c A 8 (pt (17 + (t.val - 17)))) (rsumV c A (t.val - 17))
  rw [e']
  rfl

set_option maxHeartbeats 1000000 in
/-- A point of the first pass. -/
theorem body0A (t : Fin cfg0.N) (ht : t.val < 8) (E : Set ℕ) (Y9 : Vec F S1x512x32 .bf16) (Y10 : Vec F S1x512x2 .f32) (Y11 : Vec F S1x1 .f32) (Y12 : Vec F S1x1 .f32) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  have h1 : k0_cond1 (grid0.coords t) = 1#1 := (cond1_iff t).mpr (by omega)
  have h2 : ¬ k0_cond2 (grid0.coords t) = 1#1 := fun h => absurd ((cond2_iff t).mp h) (by omega)
  unfold inv wins bodyAt0
  iintro ⟨⟨%f15, %f16, %hh, %hu, H15, H16, Ho⟩, O0, O1, O2, O3, O4, O5, O6, O7, O8, O9, O10, O11, O12⟩
  iapply (runA (U := U) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk c A 0 t) (iblk c A 1 t) (iblk c A 2 t) (iblk c A 3 t) (iblk c A 4 t) (iblk c A 5 t) (iblk c A 6 t) (iblk c A 7 t) (iblk c A 8 t) Y9 Y10 Y11 Y12 c E (grid0.coords t) f15 f16 h1 h2 _)
  isplitl [H15 H16 O0 O1 O2 O3 O4 O5 O6 O7 O8 O9 O10 O11 O12]
  · unfold pre
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [H15]; · iexact H15
    iexact H16
  iintro %g15 %g16 %hg15 %hg16 Hp
  ihave Hp := (pre_open (U := U) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (iblk c A 0 t) (iblk c A 1 t) (iblk c A 2 t) (iblk c A 3 t) (iblk c A 4 t) (iblk c A 5 t) (iblk c A 6 t) (iblk c A 7 t) (iblk c A 8 t) Y9 Y10 Y11 Y12 c g15 g16) $$ Hp
  icases Hp with ⟨O0, O1, O2, O3, O4, O5, O6, O7, O8, O9, O10, O11, O12, H15, H16⟩
  unfold post0
  isplitl [H15 H16 Ho]
  · unfold inv
    iexists g15, g16
    isplitr
    · ipureintro; exact hcat_step c A t h1 f15 g15 hg15 hh
    isplitr
    · ipureintro; subst hg16; exact u1_mono c A _ _ (Or.inr (by omega)) _ hu
    isplitl [H15]; · iexact H15
    isplitl [H16]; · iexact H16
    iexact Ho
  iexists Y9, Y10, Y11, Y12
  isplitr
  · ipureintro
    exact ⟨fun h => absurd h (by omega), fun h => absurd h (by omega), fun h => absurd h (by omega), fun h => absurd h (by omega)⟩
  unfold wins
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  iexact O12

set_option maxHeartbeats 1000000 in
/-- The second pass's first point. -/
theorem body0B (t : Fin cfg0.N) (ht : t.val = 8) (E : Set ℕ) (Y9 : Vec F S1x512x32 .bf16) (Y10 : Vec F S1x512x2 .f32) (Y11 : Vec F S1x1 .f32) (Y12 : Vec F S1x1 .f32) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  have h1 : k0_cond1 (grid0.coords t) = 1#1 := (cond1_iff t).mpr (by omega)
  have h2 : k0_cond2 (grid0.coords t) = 1#1 := (cond2_iff t).mpr (by omega)
  have h3 : k0_cond3 (grid0.coords t) = 1#1 := (cond3_iff t).mpr (by omega)
  have h4 : ¬ k0_cond4 (grid0.coords t) = 1#1 := fun h => absurd ((cond4_iff t).mp h) (by omega)
  have h5 : k0_cond5 (grid0.coords t) = 1#1 := (cond5_iff t).mpr (by omega)
  have h6 : ¬ k0_cond6 (grid0.coords t) = 1#1 := fun h => absurd ((cond6_iff t).mp h) (by omega)
  unfold inv wins bodyAt0
  iintro ⟨⟨%f15, %f16, %hh, %hu, H15, H16, Ho⟩, O0, O1, O2, O3, O4, O5, O6, O7, O8, O9, O10, O11, O12⟩
  iapply (runB (U := U) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk c A 0 t) (iblk c A 1 t) (iblk c A 2 t) (iblk c A 3 t) (iblk c A 4 t) (iblk c A 5 t) (iblk c A 6 t) (iblk c A 7 t) (iblk c A 8 t) Y9 Y10 Y11 Y12 c E (grid0.coords t) f15 f16 h1 h2 h3 h4 h5 h6 _)
  isplitl [H15 H16 O0 O1 O2 O3 O4 O5 O6 O7 O8 O9 O10 O11 O12]
  · unfold pre
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [H15]; · iexact H15
    iexact H16
  iintro %g15 %g16 %hg15 %hg16 Hp
  have hs : slab c (grid0.coords t) h2 g15 = slabAt c A t := slab_eq c A t h2 (t.val + 1) (by omega) g15 (hcat_step c A t h1 f15 g15 hg15 hh)
  rw [hs] at hg16
  rw [hs]
  ihave Hp := (pre_open (U := U) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (iblk c A 0 t) (iblk c A 1 t) (iblk c A 2 t) (iblk c A 3 t) (iblk c A 4 t) (iblk c A 5 t) (iblk c A 6 t) (iblk c A 7 t) (iblk c A 8 t) (k0_pay12 (k0_pay9 (iblk c A 2 t) (slabAt c A t) (iblk c A 5 t))) (k0_pay11 (k0_pay10 (iblk c A 2 t) (slabAt c A t) (iblk c A 5 t) (iblk c A 6 t)) (iblk c A 7 t)) (fun _ => k0_pay13 (k0_pay9 (iblk c A 2 t) (slabAt c A t) (iblk c A 5 t))) Y12 c g15 g16) $$ Hp
  icases Hp with ⟨O0, O1, O2, O3, O4, O5, O6, O7, O8, O9, O10, O11, O12, H15, H16⟩
  unfold post0
  isplitl [H15 H16 Ho]
  · unfold inv
    iexists g15, g16
    isplitr
    · ipureintro; exact hcat_step c A t h1 f15 g15 hg15 hh
    isplitr
    · ipureintro; exact u1_step c A t h2 h5 f16 g16 hg16 hu
    isplitl [H15]; · iexact H15
    isplitl [H16]; · iexact H16
    iexact Ho
  iexists (out9 c A t), (out10 c A t), (fun _ => k0_pay13 (hT c A t)), Y12
  isplitr
  · ipureintro
    exact ⟨fun _ => rfl, fun _ => rfl, fun _ => by funext x; rw [ht]; exact congrArg (fun s => k0_pay13 (hT c A s)) (by rw [← ht]; exact (pt_val t).symm), fun h => absurd h (by omega)⟩
  unfold wins
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  iexact O12

set_option maxHeartbeats 1000000 in
/-- The second pass's later points. -/
theorem body0C (t : Fin cfg0.N) (ht : 8 < t.val) (ht' : t.val < 16) (E : Set ℕ) (Y9 : Vec F S1x512x32 .bf16) (Y10 : Vec F S1x512x2 .f32) (Y11 : Vec F S1x1 .f32) (Y12 : Vec F S1x1 .f32) (hY11 : Y11 = fun _ => osumV c A (t.val - 9)) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  have h1 : k0_cond1 (grid0.coords t) = 1#1 := (cond1_iff t).mpr (by omega)
  have h2 : k0_cond2 (grid0.coords t) = 1#1 := (cond2_iff t).mpr (by omega)
  have h3 : ¬ k0_cond3 (grid0.coords t) = 1#1 := fun h => absurd ((cond3_iff t).mp h) (by omega)
  have h4 : k0_cond4 (grid0.coords t) = 1#1 := (cond4_iff t).mpr (by omega)
  have h5 : k0_cond5 (grid0.coords t) = 1#1 := (cond5_iff t).mpr (by omega)
  have h6 : ¬ k0_cond6 (grid0.coords t) = 1#1 := fun h => absurd ((cond6_iff t).mp h) (by omega)
  unfold inv wins bodyAt0
  iintro ⟨⟨%f15, %f16, %hh, %hu, H15, H16, Ho⟩, O0, O1, O2, O3, O4, O5, O6, O7, O8, O9, O10, O11, O12⟩
  iapply (runC (U := U) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk c A 0 t) (iblk c A 1 t) (iblk c A 2 t) (iblk c A 3 t) (iblk c A 4 t) (iblk c A 5 t) (iblk c A 6 t) (iblk c A 7 t) (iblk c A 8 t) Y9 Y10 Y11 Y12 c E (grid0.coords t) f15 f16 h1 h2 h3 h4 h5 h6 _)
  isplitl [H15 H16 O0 O1 O2 O3 O4 O5 O6 O7 O8 O9 O10 O11 O12]
  · unfold pre
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [H15]; · iexact H15
    iexact H16
  iintro %g15 %g16 %hg15 %hg16 Hp
  have hs : slab c (grid0.coords t) h2 g15 = slabAt c A t := slab_eq c A t h2 (t.val + 1) (by omega) g15 (hcat_step c A t h1 f15 g15 hg15 hh)
  rw [hs] at hg16
  rw [hs]
  ihave Hp := (pre_open (U := U) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (iblk c A 0 t) (iblk c A 1 t) (iblk c A 2 t) (iblk c A 3 t) (iblk c A 4 t) (iblk c A 5 t) (iblk c A 6 t) (iblk c A 7 t) (iblk c A 8 t) (k0_pay12 (k0_pay9 (iblk c A 2 t) (slabAt c A t) (iblk c A 5 t))) (k0_pay11 (k0_pay10 (iblk c A 2 t) (slabAt c A t) (iblk c A 5 t) (iblk c A 6 t)) (iblk c A 7 t)) (fun _ => k0_pay2 (k0_pay13 (k0_pay9 (iblk c A 2 t) (slabAt c A t) (iblk c A 5 t))) (smem0 Y11)) (Y12) c g15 g16) $$ Hp
  icases Hp with ⟨O0, O1, O2, O3, O4, O5, O6, O7, O8, O9, O10, O11, O12, H15, H16⟩
  unfold post0
  isplitl [H15 H16 Ho]
  · unfold inv
    iexists g15, g16
    isplitr
    · ipureintro; exact hcat_step c A t h1 f15 g15 hg15 hh
    isplitr
    · ipureintro; exact u1_step c A t h2 h5 f16 g16 hg16 hu
    isplitl [H15]; · iexact H15
    isplitl [H16]; · iexact H16
    iexact Ho
  iexists (out9 c A t), (out10 c A t), (fun _ => k0_pay2 (k0_pay13 (hT c A t)) (smem0 Y11)), (Y12)
  isplitr
  · ipureintro
    exact ⟨fun _ => rfl, fun _ => rfl, fun _ => osum_next c A t ht Y11 hY11, fun h => absurd h (by omega)⟩
  unfold wins
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  iexact O12

set_option maxHeartbeats 1000000 in
/-- The third pass's first point. -/
theorem body0D (t : Fin cfg0.N) (ht : t.val = 16) (E : Set ℕ) (Y9 : Vec F S1x512x32 .bf16) (Y10 : Vec F S1x512x2 .f32) (Y11 : Vec F S1x1 .f32) (Y12 : Vec F S1x1 .f32) (hY11 : Y11 = fun _ => osumV c A (t.val - 9)) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  have h1 : ¬ k0_cond1 (grid0.coords t) = 1#1 := fun h => absurd ((cond1_iff t).mp h) (by omega)
  have h2 : k0_cond2 (grid0.coords t) = 1#1 := (cond2_iff t).mpr (by omega)
  have h3 : ¬ k0_cond3 (grid0.coords t) = 1#1 := fun h => absurd ((cond3_iff t).mp h) (by omega)
  have h4 : k0_cond4 (grid0.coords t) = 1#1 := (cond4_iff t).mpr (by omega)
  have h5 : ¬ k0_cond5 (grid0.coords t) = 1#1 := fun h => absurd ((cond5_iff t).mp h) (by omega)
  have h6 : k0_cond6 (grid0.coords t) = 1#1 := (cond6_iff t).mpr (by omega)
  have h7 : k0_cond7 (grid0.coords t) = 1#1 := (cond7_iff t).mpr (by omega)
  have h8 : ¬ k0_cond8 (grid0.coords t) = 1#1 := fun h => absurd ((cond8_iff t).mp h) (by omega)
  unfold inv wins bodyAt0
  iintro ⟨⟨%f15, %f16, %hh, %hu, H15, H16, Ho⟩, O0, O1, O2, O3, O4, O5, O6, O7, O8, O9, O10, O11, O12⟩
  iapply (runD (U := U) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk c A 0 t) (iblk c A 1 t) (iblk c A 2 t) (iblk c A 3 t) (iblk c A 4 t) (iblk c A 5 t) (iblk c A 6 t) (iblk c A 7 t) (iblk c A 8 t) Y9 Y10 Y11 Y12 c E (grid0.coords t) f15 f16 h1 h2 h3 h4 h5 h6 h7 h8 _)
  isplitl [H15 H16 O0 O1 O2 O3 O4 O5 O6 O7 O8 O9 O10 O11 O12]
  · unfold pre
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [H15]; · iexact H15
    iexact H16
  iintro %g15 %g16 %hg15 %hg16 Hp
  have hs : slab c (grid0.coords t) h2 f15 = slabAt c A t := slab_eq c A t h2 t.val (by omega) f15 hh
  have hr : u1rows c (grid0.coords t) h2 h6 f16 = u1At c A t := u1rows_eq c A t h2 h6 f16 hu
  rw [hs, hr]
  ihave Hp := (pre_open (U := U) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (iblk c A 0 t) (iblk c A 1 t) (iblk c A 2 t) (iblk c A 3 t) (iblk c A 4 t) (iblk c A 5 t) (iblk c A 6 t) (iblk c A 7 t) (iblk c A 8 t) (k0_pay12 (k0_pay9 (iblk c A 2 t) (slabAt c A t) (iblk c A 5 t))) (k0_pay11 (k0_pay10 (iblk c A 2 t) (slabAt c A t) (iblk c A 5 t) (iblk c A 6 t)) (iblk c A 7 t)) (fun _ => k0_pay2 (k0_pay13 (k0_pay9 (iblk c A 2 t) (slabAt c A t) (iblk c A 5 t))) (smem0 Y11)) (fun _ => k0_pay4 (k0_pay7 (iblk c A 2 t) (slabAt c A t)) (u1At c A t) (iblk c A 8 t)) c g15 g16) $$ Hp
  icases Hp with ⟨O0, O1, O2, O3, O4, O5, O6, O7, O8, O9, O10, O11, O12, H15, H16⟩
  unfold post0
  isplitl [H15 H16 Ho]
  · unfold inv
    iexists g15, g16
    isplitr
    · ipureintro; subst hg15; exact hcat_mono c A _ _ (by omega) _ hh
    isplitr
    · ipureintro; subst hg16; exact u1_mono c A _ _ (Or.inl (by omega)) _ hu
    isplitl [H15]; · iexact H15
    isplitl [H16]; · iexact H16
    iexact Ho
  iexists (out9 c A t), (out10 c A t), (fun _ => k0_pay2 (k0_pay13 (hT c A t)) (smem0 Y11)), (fun _ => k0_pay4 (ublk c A t) (u1At c A t) (iblk c A 8 t))
  isplitr
  · ipureintro
    exact ⟨fun _ => rfl, fun _ => rfl, fun _ => osum_next c A t (by omega) Y11 hY11, fun _ => rsum_first c A t ht⟩
  unfold wins
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  iexact O12

set_option maxHeartbeats 1000000 in
/-- The third pass's later points. -/
theorem body0E (t : Fin cfg0.N) (ht : 16 < t.val) (E : Set ℕ) (Y9 : Vec F S1x512x32 .bf16) (Y10 : Vec F S1x512x2 .f32) (Y11 : Vec F S1x1 .f32) (Y12 : Vec F S1x1 .f32) (hY11 : Y11 = fun _ => osumV c A (t.val - 9)) (hY12 : Y12 = fun _ => rsumV c A (t.val - 17)) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  have h1 : ¬ k0_cond1 (grid0.coords t) = 1#1 := fun h => absurd ((cond1_iff t).mp h) (by omega)
  have h2 : k0_cond2 (grid0.coords t) = 1#1 := (cond2_iff t).mpr (by omega)
  have h3 : ¬ k0_cond3 (grid0.coords t) = 1#1 := fun h => absurd ((cond3_iff t).mp h) (by omega)
  have h4 : k0_cond4 (grid0.coords t) = 1#1 := (cond4_iff t).mpr (by omega)
  have h5 : ¬ k0_cond5 (grid0.coords t) = 1#1 := fun h => absurd ((cond5_iff t).mp h) (by omega)
  have h6 : k0_cond6 (grid0.coords t) = 1#1 := (cond6_iff t).mpr (by omega)
  have h7 : ¬ k0_cond7 (grid0.coords t) = 1#1 := fun h => absurd ((cond7_iff t).mp h) (by omega)
  have h8 : k0_cond8 (grid0.coords t) = 1#1 := (cond8_iff t).mpr (by omega)
  unfold inv wins bodyAt0
  iintro ⟨⟨%f15, %f16, %hh, %hu, H15, H16, Ho⟩, O0, O1, O2, O3, O4, O5, O6, O7, O8, O9, O10, O11, O12⟩
  iapply (runE (U := U) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (iblk c A 0 t) (iblk c A 1 t) (iblk c A 2 t) (iblk c A 3 t) (iblk c A 4 t) (iblk c A 5 t) (iblk c A 6 t) (iblk c A 7 t) (iblk c A 8 t) Y9 Y10 Y11 Y12 c E (grid0.coords t) f15 f16 h1 h2 h3 h4 h5 h6 h7 h8 _)
  isplitl [H15 H16 O0 O1 O2 O3 O4 O5 O6 O7 O8 O9 O10 O11 O12]
  · unfold pre
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [H15]; · iexact H15
    iexact H16
  iintro %g15 %g16 %hg15 %hg16 Hp
  have hs : slab c (grid0.coords t) h2 f15 = slabAt c A t := slab_eq c A t h2 t.val (by omega) f15 hh
  have hr : u1rows c (grid0.coords t) h2 h6 f16 = u1At c A t := u1rows_eq c A t h2 h6 f16 hu
  rw [hs, hr]
  ihave Hp := (pre_open (U := U) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (iblk c A 0 t) (iblk c A 1 t) (iblk c A 2 t) (iblk c A 3 t) (iblk c A 4 t) (iblk c A 5 t) (iblk c A 6 t) (iblk c A 7 t) (iblk c A 8 t) (k0_pay12 (k0_pay9 (iblk c A 2 t) (slabAt c A t) (iblk c A 5 t))) (k0_pay11 (k0_pay10 (iblk c A 2 t) (slabAt c A t) (iblk c A 5 t) (iblk c A 6 t)) (iblk c A 7 t)) (fun _ => k0_pay2 (k0_pay13 (k0_pay9 (iblk c A 2 t) (slabAt c A t) (iblk c A 5 t))) (smem0 Y11)) (fun _ => k0_pay5 (k0_pay7 (iblk c A 2 t) (slabAt c A t)) (u1At c A t) (iblk c A 8 t) (smem0 Y12)) c g15 g16) $$ Hp
  icases Hp with ⟨O0, O1, O2, O3, O4, O5, O6, O7, O8, O9, O10, O11, O12, H15, H16⟩
  unfold post0
  isplitl [H15 H16 Ho]
  · unfold inv
    iexists g15, g16
    isplitr
    · ipureintro; subst hg15; exact hcat_mono c A _ _ (by omega) _ hh
    isplitr
    · ipureintro; subst hg16; exact u1_mono c A _ _ (Or.inl (by omega)) _ hu
    isplitl [H15]; · iexact H15
    isplitl [H16]; · iexact H16
    iexact Ho
  iexists (out9 c A t), (out10 c A t), (fun _ => k0_pay2 (k0_pay13 (hT c A t)) (smem0 Y11)), (fun _ => k0_pay5 (ublk c A t) (u1At c A t) (iblk c A 8 t) (smem0 Y12))
  isplitr
  · ipureintro
    exact ⟨fun _ => rfl, fun _ => rfl, fun _ => osum_next c A t (by omega) Y11 hY11, fun _ => rsum_next c A t ht Y12 hY12⟩
  unfold wins
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  iexact O12

end Cert.KernelIdeal.Data
-- ==== Proof.KernelIdeal.Region0.lean ====
module

public import proofs.«01_k».proof.Proof.KernelIdeal.Oblig0
public import Idealize.ShloMosaic.Lib.Pipeline.FrameBody

@[expose] public section

set_option maxRecDepth 16384

noncomputable section

/-! The first call's body at any point: as the pipeline asks for it. -/
namespace Cert.KernelIdeal.Data

open Cert.KernelIdeal Cert.KernelIdeal.Gen Cert.KernelIdeal.Body
open Idealize.ShloMosaic Idealize.ShloMosaic.TcCoe Idealize.ShloMosaic.Pipeline Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

variable (c : Dev nD) (A : (w : Fin cfg0.W) → Buf (Elt F) ((cfg0.win w).arr.view.loc (c.tc : Thread nD τ)))

/-! An input's window holds the point's block of its array. -/

theorem before_0 (t : Fin cfg0.N) (d : (cfg0.win 0).block.Idx → Elt F (cfg0.win 0).elt) : (dat0 (U := U) c A).before 0 t d = iblk c A 0 t := by
  refine (Dat.before_in_eq_fetched (dat0 (U := U) c A) 0 rfl (fun _ => rfl) (fun _ _ _ => rfl) (fun t => rfl) t d).trans ?_
  rfl

theorem before_1 (t : Fin cfg0.N) (d : (cfg0.win 1).block.Idx → Elt F (cfg0.win 1).elt) : (dat0 (U := U) c A).before 1 t d = iblk c A 1 t := by
  refine (Dat.before_in_eq_fetched (dat0 (U := U) c A) 1 rfl (fun _ => rfl) (fun _ _ _ => rfl) (fun t => rfl) t d).trans ?_
  rfl

theorem before_2 (t : Fin cfg0.N) (d : (cfg0.win 2).block.Idx → Elt F (cfg0.win 2).elt) : (dat0 (U := U) c A).before 2 t d = iblk c A 2 t := by
  refine (Dat.before_in_eq_fetched (dat0 (U := U) c A) 2 rfl (fun _ => rfl) (fun _ _ _ => rfl) (fun t => rfl) t d).trans ?_
  rfl

theorem before_3 (t : Fin cfg0.N) (d : (cfg0.win 3).block.Idx → Elt F (cfg0.win 3).elt) : (dat0 (U := U) c A).before 3 t d = iblk c A 3 t := by
  refine (Dat.before_in_eq_fetched (dat0 (U := U) c A) 3 rfl (fun _ => rfl) (fun _ _ _ => rfl) (fun t => rfl) t d).trans ?_
  rfl

theorem before_4 (t : Fin cfg0.N) (d : (cfg0.win 4).block.Idx → Elt F (cfg0.win 4).elt) : (dat0 (U := U) c A).before 4 t d = iblk c A 4 t := by
  refine (Dat.before_in_eq_fetched (dat0 (U := U) c A) 4 rfl (fun _ => rfl) (fun _ _ _ => rfl) (fun t => rfl) t d).trans ?_
  rfl

theorem before_5 (t : Fin cfg0.N) (d : (cfg0.win 5).block.Idx → Elt F (cfg0.win 5).elt) : (dat0 (U := U) c A).before 5 t d = iblk c A 5 t := by
  refine (Dat.before_in_eq_fetched (dat0 (U := U) c A) 5 rfl (fun _ => rfl) (fun _ _ _ => rfl) (fun t => rfl) t d).trans ?_
  rfl

theorem before_6 (t : Fin cfg0.N) (d : (cfg0.win 6).block.Idx → Elt F (cfg0.win 6).elt) : (dat0 (U := U) c A).before 6 t d = iblk c A 6 t := by
  refine (Dat.before_in_eq_fetched (dat0 (U := U) c A) 6 rfl (fun _ => rfl) (fun _ _ _ => rfl) (fun t => rfl) t d).trans ?_
  rfl

theorem before_7 (t : Fin cfg0.N) (d : (cfg0.win 7).block.Idx → Elt F (cfg0.win 7).elt) : (dat0 (U := U) c A).before 7 t d = iblk c A 7 t := by
  refine (Dat.before_in_eq_fetched (dat0 (U := U) c A) 7 rfl (fun _ => rfl) (fun _ _ _ => rfl) (fun t => rfl) t d).trans ?_
  rfl

theorem before_8 (t : Fin cfg0.N) (d : (cfg0.win 8).block.Idx → Elt F (cfg0.win 8).elt) : (dat0 (U := U) c A).before 8 t d = iblk c A 8 t := by
  refine (Dat.before_in_eq_fetched (dat0 (U := U) c A) 8 rfl (fun _ => rfl) (fun _ _ _ => rfl) (fun t => rfl) t d).trans ?_
  rfl

/-- After the second pass's first point the third result's window holds the running sum. -/
theorem finds_11 (t : Fin cfg0.N) (ht : 8 < t.val) (Y : (cfg0.win 11).block.Idx → Elt F (cfg0.win 11).elt)
    (h : ((dat0 (U := U) c A).toRRel fgt (Rl c A)).Finds 11 t Y) : Y = fun _ => osumV c A (t.val - 9) := by
  have h24 := pt_lt t
  rcases (RDat.finds_of_pos _ (w := 11) rfl (by omega) Y).mp h with hf | hl
  · exact absurd ((flush0_11 _).mp hf) (by show ¬ (t.val - 1) % 24 = 23; omega)
  · have := Dat.toRRel_leaves (dat0 (U := U) c A) (fgt := fgt) (Rl := Rl c A) (w := 11) rfl hl
    exact (this (by show 8 ≤ t.val - 1; omega)).trans (by show (fun _ => osumV c A (t.val - 1 - 8)) = _; rw [show t.val - 1 - 8 = t.val - 9 by omega])

/-- After the third pass's first point the fourth result's window holds the running sum. -/
theorem finds_12 (t : Fin cfg0.N) (ht : 16 < t.val) (Y : (cfg0.win 12).block.Idx → Elt F (cfg0.win 12).elt)
    (h : ((dat0 (U := U) c A).toRRel fgt (Rl c A)).Finds 12 t Y) : Y = fun _ => rsumV c A (t.val - 17) := by
  have h24 := pt_lt t
  rcases (RDat.finds_of_pos _ (w := 12) rfl (by omega) Y).mp h with hf | hl
  · exact absurd ((flush0_12 _).mp hf) (by show ¬ (t.val - 1) % 24 = 23; omega)
  · have := Dat.toRRel_leaves (dat0 (U := U) c A) (fgt := fgt) (Rl := Rl c A) (w := 12) rfl hl
    exact (this (by show 16 ≤ t.val - 1; omega)).trans (by show (fun _ => rsumV c A (t.val - 1 - 16)) = _; rw [show t.val - 1 - 16 = t.val - 17 by omega])

/-- The body at any point. -/
theorem body0 (t : Fin cfg0.N) (E : Set ℕ) (Y9 : Vec F S1x512x32 .bf16) (Y10 : Vec F S1x512x2 .f32) (Y11 : Vec F S1x1 .f32) (Y12 : Vec F S1x1 .f32)
    (hY11 : 8 < t.val → Y11 = fun _ => osumV c A (t.val - 9)) (hY12 : 16 < t.val → Y12 = fun _ => rsumV c A (t.val - 17)) :
    iprop(inv (U := U) c A t.val ∗ wins (U := U) c A t Y9 Y10 Y11 Y12)
      ⊢ wp frame (wpE (defs₀ (F := F)) Variants.none c none) E (bodyAt0 t) (fun _ => post0 (U := U) c A t) := by
  have h24 := pt_lt t
  by_cases h1 : t.val < 8
  · exact body0A c A t h1 E Y9 Y10 Y11 Y12
  by_cases h2 : t.val = 8
  · exact body0B c A t h2 E Y9 Y10 Y11 Y12
  by_cases h3 : t.val < 16
  · exact body0C c A t (by omega) h3 E Y9 Y10 Y11 Y12 (hY11 (by omega))
  by_cases h4 : t.val = 16
  · exact body0D c A t h4 E Y9 Y10 Y11 Y12 (hY11 (by omega))
  · exact body0E c A t (by omega) E Y9 Y10 Y11 Y12 (hY11 (by omega)) (hY12 (by omega))

set_option maxHeartbeats 1000000 in
/-- The body's obligation. -/
theorem obl0 : BodyObligationRel (dat0 (U := U) c A) (defs₀ (F := F)) Variants.none () Set.univ fgt (Rl c A) := fun t => by
  rw [bigSep_W0, bigSep_W0]
  show iprop(inv (U := U) c A t.val ∗ (dat0 (U := U) c A).owesAt () t.castSucc ∗ (∃ d, owns (c : Thread nD τ) (st0_0 t) fullShare ((dat0 (U := U) c A).before 0 t d)) ∗ (∃ d, owns (c : Thread nD τ) (st0_1 t) fullShare ((dat0 (U := U) c A).before 1 t d)) ∗ (∃ d, owns (c : Thread nD τ) (st0_2 t) fullShare ((dat0 (U := U) c A).before 2 t d)) ∗ (∃ d, owns (c : Thread nD τ) (st0_3 t) fullShare ((dat0 (U := U) c A).before 3 t d)) ∗ (∃ d, owns (c : Thread nD τ) (st0_4 t) fullShare ((dat0 (U := U) c A).before 4 t d)) ∗ (∃ d, owns (c : Thread nD τ) (st0_5 t) fullShare ((dat0 (U := U) c A).before 5 t d)) ∗ (∃ d, owns (c : Thread nD τ) (st0_6 t) fullShare ((dat0 (U := U) c A).before 6 t d)) ∗ (∃ d, owns (c : Thread nD τ) (st0_7 t) fullShare ((dat0 (U := U) c A).before 7 t d)) ∗ (∃ d, owns (c : Thread nD τ) (st0_8 t) fullShare ((dat0 (U := U) c A).before 8 t d)) ∗ (∃ Y, ⌜((dat0 (U := U) c A).toRRel fgt (Rl c A)).Finds 9 t Y⌝ ∗ owns (c : Thread nD τ) (st0_9 t) fullShare Y) ∗ (∃ Y, ⌜((dat0 (U := U) c A).toRRel fgt (Rl c A)).Finds 10 t Y⌝ ∗ owns (c : Thread nD τ) (st0_10 t) fullShare Y) ∗ (∃ Y, ⌜((dat0 (U := U) c A).toRRel fgt (Rl c A)).Finds 11 t Y⌝ ∗ owns (c : Thread nD τ) (st0_11 t) fullShare Y) ∗ (∃ Y, ⌜((dat0 (U := U) c A).toRRel fgt (Rl c A)).Finds 12 t Y⌝ ∗ owns (c : Thread nD τ) (st0_12 t) fullShare Y))
    ⊢ wp frame (wpE (defs₀ (F := F)) Variants.none c none) Set.univ (bodyAt0 t) (fun _ => iprop(inv (U := U) c A (t.val + 1) ∗ (dat0 (U := U) c A).owesAt () t.castSucc ∗ owns (c : Thread nD τ) (st0_0 t) fullShare (iblk c A 0 t) ∗ owns (c : Thread nD τ) (st0_1 t) fullShare (iblk c A 1 t) ∗ owns (c : Thread nD τ) (st0_2 t) fullShare (iblk c A 2 t) ∗ owns (c : Thread nD τ) (st0_3 t) fullShare (iblk c A 3 t) ∗ owns (c : Thread nD τ) (st0_4 t) fullShare (iblk c A 4 t) ∗ owns (c : Thread nD τ) (st0_5 t) fullShare (iblk c A 5 t) ∗ owns (c : Thread nD τ) (st0_6 t) fullShare (iblk c A 6 t) ∗ owns (c : Thread nD τ) (st0_7 t) fullShare (iblk c A 7 t) ∗ owns (c : Thread nD τ) (st0_8 t) fullShare (iblk c A 8 t) ∗ (∃ X, ⌜Rl c A 9 t X⌝ ∗ owns (c : Thread nD τ) (st0_9 t) fullShare X) ∗ (∃ X, ⌜Rl c A 10 t X⌝ ∗ owns (c : Thread nD τ) (st0_10 t) fullShare X) ∗ (∃ X, ⌜Rl c A 11 t X⌝ ∗ owns (c : Thread nD τ) (st0_11 t) fullShare X) ∗ (∃ X, ⌜Rl c A 12 t X⌝ ∗ owns (c : Thread nD τ) (st0_12 t) fullShare X)))
  iintro ⟨Hi, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %h9, H9⟩, ⟨%Y10, %h10, H10⟩, ⟨%Y11, %h11, H11⟩, ⟨%Y12, %h12, H12⟩⟩
  rw [before_0]
  rw [before_1]
  rw [before_2]
  rw [before_3]
  rw [before_4]
  rw [before_5]
  rw [before_6]
  rw [before_7]
  rw [before_8]
  ihave Hw := (body0 c A t Set.univ Y9 Y10 Y11 Y12 (fun h => finds_11 c A t h Y11 h11) (fun h => finds_12 c A t h Y12 h12)) $$ [Hi H0 H1 H2 H3 H4 H5 H6 H7 H8 H9 H10 H11 H12]
  · isplitl [Hi]; · iexact Hi
    unfold wins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iapply (wp_wand_r frame _ _ (Q := fun _ => post0 (U := U) c A t))
  isplitl [Hw]; · iexact Hw
  iintro %u Hp
  unfold post0 wins
  icases Hp with ⟨Hi, %X9, %X10, %X11, %X12, %hX, H0, H1, H2, H3, H4, H5, H6, H7, H8, H9, H10, H11, H12⟩
  isplitl [Hi]; · iexact Hi
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists X9; isplitr; · ipureintro; exact hX.1
    iexact H9
  isplitl [H10]
  · iexists X10; isplitr; · ipureintro; exact hX.2.1
    iexact H10
  isplitl [H11]
  · iexists X11; isplitr; · ipureintro; exact hX.2.2.1
    iexact H11
  iexists X12; isplitr; · ipureintro; exact hX.2.2.2
  iexact H12

end Cert.KernelIdeal.Data
-- ==== Proof.KernelIdeal.Body1.lean ====
module

public import proofs.«01_k».proof.Proof.KernelIdeal.Body0

@[expose] public section

set_option maxRecDepth 16384

noncomputable section

namespace Cert.KernelIdeal.Body.Second

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ
/-- An operation followed by the rest of the program. -/
theorem wp_lift_bind {Λ : Labels} {defs : Defs nD τ sig (Elt F) Λ} (𝒱 : Variants) (c : Thread nD τ) (bd : Option 𝒱.V) (E : Set ℕ) {α β : Type} {Q : α → sProp 𝕄}
    {e : TpuEff nD τ sig (Elt F) Λ c.2 β} {k : β → Prog (TpuEff nD τ sig (Elt F) Λ c.2) α} :
    wp frame (wpE defs 𝒱 c bd) E (.op e k) Q ⊢ wp frame (wpE defs 𝒱 c bd) E (Prog.lift e >>= k) Q :=
  Entails.refl _

variable (arg1 : Memref sig .tc .vmem S1x1024x4096 .f32) (harg1 : arg1.IsWhole)
variable (arg2 : Memref sig .tc .vmem S3x4096x32 .bf16) (harg2 : arg2.IsWhole)
variable (arg3 : Memref sig .tc .smem S1x1 .f32) (harg3 : arg3.IsWhole)
variable (x1 : Vec F S1x1024x4096 .f32) (x2 : Vec F S3x4096x32 .bf16) (x3 : Vec F S1x1 .f32)
variable (c : Dev nD) (E : Set ℕ) (i : grid1.Coords)

/-- The accumulator's upper half. -/
def top (f : Buf (Elt F) ((c : Thread nD τ).loc cc1_scratch0)) : Vec F S32x4096 .f32 :=
  (Memref.whole cc1_scratch0).view.readAt (Elt F) (Rect.unit (s := S64x4096) ![0, 0] S32x4096.size inb_S64x4096_S32x4096_0_0).toLoadRect f

/-- The accumulator's lower half. -/
def bot (f : Buf (Elt F) ((c : Thread nD τ).loc cc1_scratch0)) : Vec F S32x4096 .f32 :=
  (Memref.whole cc1_scratch0).view.readAt (Elt F) (Rect.unit (s := S64x4096) ![32, 0] S32x4096.size inb_S64x4096_S32x4096_32_0).toLoadRect f

/-- The upper half's columns of the point's block. -/
def topCols (f : Buf (Elt F) ((c : Thread nD τ).loc cc1_scratch0)) : Vec F S32x1024 .f32 :=
  (Memref.whole cc1_scratch0).view.readAt (Elt F) (Rect.unit (s := S64x4096) (k1_off3 i) S32x1024.size (k1_off3_inb i)).toLoadRect f

/-- The lower half's columns of the point's block. -/
def botCols (f : Buf (Elt F) ((c : Thread nD τ).loc cc1_scratch0)) : Vec F S32x1024 .f32 :=
  (Memref.whole cc1_scratch0).view.readAt (Elt F) (Rect.unit (s := S64x4096) (k1_off5 i) S32x1024.size (k1_off5_inb i)).toLoadRect f

/-- The accumulator with its upper half replaced. -/
def setTop (w : Vec F S32x4096 .f32) (f : Buf (Elt F) ((c : Thread nD τ).loc cc1_scratch0)) : Buf (Elt F) ((c : Thread nD τ).loc cc1_scratch0) :=
  (Memref.whole cc1_scratch0).view.writes (Elt F) f [⟨Rect.unit (s := S64x4096) ![0, 0] S32x4096.size inb_S64x4096_S32x4096_0_0, w⟩]

/-- The accumulator with its lower half replaced. -/
def setBot (w : Vec F S32x4096 .f32) (f : Buf (Elt F) ((c : Thread nD τ).loc cc1_scratch0)) : Buf (Elt F) ((c : Thread nD τ).loc cc1_scratch0) :=
  (Memref.whole cc1_scratch0).view.writes (Elt F) f [⟨Rect.unit (s := S64x4096) ![32, 0] S32x4096.size inb_S64x4096_S32x4096_32_0, w⟩]

/-- The accumulator with the upper half's columns of the point's block replaced. -/
def setTopCols (w : Vec F S32x1024 .f32) (f : Buf (Elt F) ((c : Thread nD τ).loc cc1_scratch0)) : Buf (Elt F) ((c : Thread nD τ).loc cc1_scratch0) :=
  (Memref.whole cc1_scratch0).view.writes (Elt F) f [⟨Rect.unit (s := S64x4096) (k1_off3 i) S32x1024.size (k1_off3_inb i), w⟩]

/-- The accumulator with the lower half's columns of the point's block replaced. -/
def setBotCols (w : Vec F S32x1024 .f32) (f : Buf (Elt F) ((c : Thread nD τ).loc cc1_scratch0)) : Buf (Elt F) ((c : Thread nD τ).loc cc1_scratch0) :=
  (Memref.whole cc1_scratch0).view.writes (Elt F) f [⟨Rect.unit (s := S64x4096) (k1_off5 i) S32x1024.size (k1_off5_inb i), w⟩]

/-- The diagonal block of the point's rows of the matrix. -/
def diagBlk : Vec F S1x1024x1024 .f32 := View.ld x1 (Rect.unit (s := S1x1024x4096) (k1_off1 i) S1x1024x1024.size (k1_off1_inb i))

/-- The point's rows of the first plane of `h`. -/
def hrow0 : Vec F S1x1024x32 .bf16 := View.ld x2 (Rect.unit (s := S3x4096x32) (k1_off2 i) S1x1024x32.size (k1_off2_inb i))

/-- The point's rows of the second plane of `h`. -/
def hrow1 : Vec F S1x1024x32 .bf16 := View.ld x2 (Rect.unit (s := S3x4096x32) (k1_off4 i) S1x1024x32.size (k1_off4_inb i))

/-- The first plane of `h`. -/
def hall0 : Vec F S1x4096x32 .bf16 := View.ld x2 (Rect.unit (s := S3x4096x32) ![0, 0, 0] S1x4096x32.size inb_S3x4096x32_S1x4096x32_0_0_0)

/-- The second plane of `h`. -/
def hall1 : Vec F S1x4096x32 .bf16 := View.ld x2 (Rect.unit (s := S3x4096x32) ![1, 0, 0] S1x4096x32.size inb_S3x4096x32_S1x4096x32_1_0_0)

/-- The accumulator once a point has brought the upper half up to `wt` and added the diagonal's part. -/
def midTop (wt : Vec F S32x4096 .f32) (f : Buf (Elt F) ((c : Thread nD τ).loc cc1_scratch0)) : Buf (Elt F) ((c : Thread nD τ).loc cc1_scratch0) :=
  setTopCols c i (k1_pay1 (k1_pay12 x1 (diagBlk x1 i) (hrow0 x2 i)) (topCols c i (setTop c wt f))) (setTop c wt f)

/-- What a point adds on the diagonal's columns, after the upper and the lower half were brought up to `wt` and `wb`. -/
def finish (wt : Vec F S32x4096 .f32) (wb : Vec F S32x4096 .f32) (f : Buf (Elt F) ((c : Thread nD τ).loc cc1_scratch0)) : Buf (Elt F) ((c : Thread nD τ).loc cc1_scratch0) :=
  setBotCols c i (k1_pay6 (k1_pay9 x1 (diagBlk x1 i)) (hrow1 x2 i) (botCols c i (setBot c wb (midTop x1 x2 c i wt f)))) (setBot c wb (midTop x1 x2 c i wt f))

/-- The operands and the accumulator. -/
def pre (f : Buf (Elt F) ((c : Thread nD τ).loc cc1_scratch0)) : sProp 𝕄 :=
  iprop(owns (c : Thread nD τ) arg1 fullShare x1 ∗ owns (c : Thread nD τ) arg2 fullShare x2 ∗ owns (c : Thread nD τ) arg3 fullShare x3
    ∗ (((c : Thread nD τ).loc cc1_scratch0) ↦{fullShare} f))

/-- The operands, one by one. -/
theorem pre_open (f : Buf (Elt F) ((c : Thread nD τ).loc cc1_scratch0)) :
    pre (U := U) arg1 arg2 arg3 x1 x2 x3 c f ⊢ iprop(owns (c : Thread nD τ) arg1 fullShare x1 ∗ owns (c : Thread nD τ) arg2 fullShare x2 ∗ owns (c : Thread nD τ) arg3 fullShare x3
    ∗ (((c : Thread nD τ).loc cc1_scratch0) ↦{fullShare} f)) :=
  Entails.refl _

/-- The point is the grid's first. -/
def IsFirst : Prop := Scalar.cmpi .ne (Scalar.extui (Scalar.cmpi .eq (BitVec.ofNat 32 (i 0).val) 0#32) : BitVec 32) 0#32 = 1#1

/-- The point is a later one. -/
def IsLater : Prop := Scalar.cmpi .ne (Scalar.extui (Scalar.cmpi .sgt (BitVec.ofNat 32 (i 0).val) 0#32) : BitVec 32) 0#32 = 1#1

set_option maxHeartbeats 1000000 in
/-- The first point: the accumulator begun. -/
theorem runFirst (f : Buf (Elt F) ((c : Thread nD τ).loc cc1_scratch0)) (hf : IsFirst i) (hl : ¬ IsLater i) (h5 : ¬ k1_cond5 i = 1#1)
    (K : PUnit → sProp 𝕄) :
    iprop(pre (U := U) arg1 arg2 arg3 x1 x2 x3 c f
      ∗ (∀ g, ⌜g = finish x1 x2 c i (k1_pay13 x1 (hrow0 x2 i)) (k1_pay4 (k1_pay8 x1) (hrow1 x2 i)) f⌝ -∗ pre (U := U) arg1 arg2 arg3 x1 x2 x3 c g -∗ K ⟨⟩))
    ⊢ wp frame (wpE (defs₀ (F := F)) Variants.none c none) E
        (cc1__k2_body i arg1 harg1 arg2 harg2 arg3 harg3 (Memref.whole cc1_scratch0) (Memref.isWhole_whole _)) K := by
  unfold IsFirst at hf; unfold IsLater at hl
  simp only [cc1__k2_body_eq_skeleton, cc1__k2_body_skel, k1_part1_eq_skeleton, k1_part1_skel, bind_assoc, pure_bind, dif_pos hf, dif_neg hl, dif_neg h5]
  iintro ⟨Hp, Hk⟩
  ihave Hp := (pre_open (U := U) arg1 arg2 arg3 x1 x2 x3 c f) $$ Hp
  icases Hp with ⟨O1, O2, O3, H4⟩
  ihave O1 := (owns_open (U := U) (c : Thread nD τ) arg1 x1) $$ O1; icases O1 with ⟨%f1, %hf1, H1⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := f)) $$ H4
  iintro %g1 %hg1 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g1)) $$ H4
  iintro %g2 %hg2 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g2)) $$ H4
  iintro %g3 %hg3 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g3)) $$ H4
  iintro %g4 %hg4 H4
  sl_step
  obtain rfl : arg1.view.readAt (Elt F) (Rect.unit (s := S1x1024x4096) ![0, 0, 0] S1x1024x4096.size inb_S1x1024x4096_S1x1024x4096_0_0_0).toLoadRect f1 = x1 := (View.readAt_full arg1.view f1 inb_S1x1024x4096_S1x1024x4096_0_0_0).trans hf1
  subst hf2
  ihave H1 := (owns_back (U := U) (c : Thread nD τ) arg1 _ f1 hf1) $$ H1
  ihave H2 := (owns_back (U := U) (c : Thread nD τ) arg2 _ f2 rfl) $$ H2
  ihave H3 := (owns_back (U := U) (c : Thread nD τ) arg3 _ f3 hf3) $$ H3
  iapply Hk $$ %g4 [] [H1 H2 H3 H4]
  · ipureintro
    subst hg1 hg2 hg3
    have hd : (arg1.view.readAt (Elt F) (Rect.unit (s := S1x1024x4096) (k1_off1 i) S1x1024x1024.size (k1_off1_inb i)).toLoadRect f1) = diagBlk (arg1.view.readAt (Elt F) (Rect.unit (s := S1x1024x4096) ![0, 0, 0] S1x1024x4096.size inb_S1x1024x4096_S1x1024x4096_0_0_0).toLoadRect f1) i := by
      rw [← hf1]; rfl
    rw [hg4, hd]
    rfl
  unfold pre
  isplitl [H1]; · iexact H1
  isplitl [H2]; · iexact H2
  isplitl [H3]; · iexact H3
  iexact H4

set_option maxHeartbeats 1000000 in
/-- A middle point: the accumulator added to. -/
theorem runMid (f : Buf (Elt F) ((c : Thread nD τ).loc cc1_scratch0)) (hf : ¬ IsFirst i) (hl : IsLater i) (h5 : ¬ k1_cond5 i = 1#1)
    (K : PUnit → sProp 𝕄) :
    iprop(pre (U := U) arg1 arg2 arg3 x1 x2 x3 c f
      ∗ (∀ g, ⌜g = finish x1 x2 c i (k1_pay14 x1 (hrow0 x2 i) (top c f)) (k1_pay5 (k1_pay8 x1) (hrow1 x2 i) (bot c (midTop x1 x2 c i (k1_pay14 x1 (hrow0 x2 i) (top c f)) f))) f⌝ -∗ pre (U := U) arg1 arg2 arg3 x1 x2 x3 c g -∗ K ⟨⟩))
    ⊢ wp frame (wpE (defs₀ (F := F)) Variants.none c none) E
        (cc1__k2_body i arg1 harg1 arg2 harg2 arg3 harg3 (Memref.whole cc1_scratch0) (Memref.isWhole_whole _)) K := by
  unfold IsFirst at hf; unfold IsLater at hl
  simp only [cc1__k2_body_eq_skeleton, cc1__k2_body_skel, k1_part1_eq_skeleton, k1_part1_skel, bind_assoc, pure_bind, dif_neg hf, dif_pos hl, dif_neg h5]
  iintro ⟨Hp, Hk⟩
  ihave Hp := (pre_open (U := U) arg1 arg2 arg3 x1 x2 x3 c f) $$ Hp
  icases Hp with ⟨O1, O2, O3, H4⟩
  ihave O1 := (owns_open (U := U) (c : Thread nD τ) arg1 x1) $$ O1; icases O1 with ⟨%f1, %hf1, H1⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := f)) $$ H4
  iintro %g1 %hg1 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g1)) $$ H4
  iintro %g2 %hg2 H4
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g2)) $$ H4
  iintro %g3 %hg3 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g3)) $$ H4
  iintro %g4 %hg4 H4
  sl_step
  obtain rfl : arg1.view.readAt (Elt F) (Rect.unit (s := S1x1024x4096) ![0, 0, 0] S1x1024x4096.size inb_S1x1024x4096_S1x1024x4096_0_0_0).toLoadRect f1 = x1 := (View.readAt_full arg1.view f1 inb_S1x1024x4096_S1x1024x4096_0_0_0).trans hf1
  subst hf2
  ihave H1 := (owns_back (U := U) (c : Thread nD τ) arg1 _ f1 hf1) $$ H1
  ihave H2 := (owns_back (U := U) (c : Thread nD τ) arg2 _ f2 rfl) $$ H2
  ihave H3 := (owns_back (U := U) (c : Thread nD τ) arg3 _ f3 hf3) $$ H3
  iapply Hk $$ %g4 [] [H1 H2 H3 H4]
  · ipureintro
    subst hg1 hg2 hg3
    have hd : (arg1.view.readAt (Elt F) (Rect.unit (s := S1x1024x4096) (k1_off1 i) S1x1024x1024.size (k1_off1_inb i)).toLoadRect f1) = diagBlk (arg1.view.readAt (Elt F) (Rect.unit (s := S1x1024x4096) ![0, 0, 0] S1x1024x4096.size inb_S1x1024x4096_S1x1024x4096_0_0_0).toLoadRect f1) i := by
      rw [← hf1]; rfl
    rw [hg4, hd]
    rfl
  unfold pre
  isplitl [H1]; · iexact H1
  isplitl [H2]; · iexact H2
  isplitl [H3]; · iexact H3
  iexact H4

set_option maxHeartbeats 1000000 in
/-- The last point: the accumulator added to and the result computed from it. -/
theorem runLast (f : Buf (Elt F) ((c : Thread nD τ).loc cc1_scratch0)) (hf : ¬ IsFirst i) (hl : IsLater i) (h5 : k1_cond5 i = 1#1)
    (K : PUnit → sProp 𝕄) :
    iprop(pre (U := U) arg1 arg2 arg3 x1 x2 x3 c f
      ∗ (∀ g, ⌜g = finish x1 x2 c i (k1_pay14 x1 (hrow0 x2 i) (top c f)) (k1_pay5 (k1_pay8 x1) (hrow1 x2 i) (bot c (midTop x1 x2 c i (k1_pay14 x1 (hrow0 x2 i) (top c f)) f))) f⌝ -∗ pre (U := U) arg1 arg2 arg3 x1 x2 (fun _ => k1_pay7 (top c g) (hall0 x2) (bot c g) (hall1 x2)) c g -∗ K ⟨⟩))
    ⊢ wp frame (wpE (defs₀ (F := F)) Variants.none c none) E
        (cc1__k2_body i arg1 harg1 arg2 harg2 arg3 harg3 (Memref.whole cc1_scratch0) (Memref.isWhole_whole _)) K := by
  unfold IsFirst at hf; unfold IsLater at hl
  simp only [cc1__k2_body_eq_skeleton, cc1__k2_body_skel, k1_part1_eq_skeleton, k1_part1_skel, bind_assoc, pure_bind, dif_neg hf, dif_pos hl, dif_pos h5]
  iintro ⟨Hp, Hk⟩
  ihave Hp := (pre_open (U := U) arg1 arg2 arg3 x1 x2 x3 c f) $$ Hp
  icases Hp with ⟨O1, O2, O3, H4⟩
  ihave O1 := (owns_open (U := U) (c : Thread nD τ) arg1 x1) $$ O1; icases O1 with ⟨%f1, %hf1, H1⟩
  ihave O2 := (owns_open (U := U) (c : Thread nD τ) arg2 x2) $$ O2; icases O2 with ⟨%f2, %hf2, H2⟩
  ihave O3 := (owns_open (U := U) (c : Thread nD τ) arg3 x3) $$ O3; icases O3 with ⟨%f3, %hf3, H3⟩
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := f)) $$ H4
  iintro %g1 %hg1 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g1)) $$ H4
  iintro %g2 %hg2 H4
  iapply (wp_lift_bind Variants.none (c : Thread nD τ) none E)
  sl_step
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g2)) $$ H4
  iintro %g3 %hg3 H4
  iapply (wp_lift_bind Variants.none (c : Thread nD τ) none E)
  sl_step
  iapply (wp_lift_bind Variants.none (c : Thread nD τ) none E)
  sl_step
  iapply (wp_lift_bind Variants.none (c : Thread nD τ) none E)
  iapply (wp_store_named Variants.none (c : Thread nD τ) none E (m := Memref.whole cc1_scratch0) (f := g3)) $$ H4
  iintro %g4 %hg4 H4
  sl_exec
  sl_step
  obtain rfl : arg1.view.readAt (Elt F) (Rect.unit (s := S1x1024x4096) ![0, 0, 0] S1x1024x4096.size inb_S1x1024x4096_S1x1024x4096_0_0_0).toLoadRect f1 = x1 := (View.readAt_full arg1.view f1 inb_S1x1024x4096_S1x1024x4096_0_0_0).trans hf1
  subst hf2
  ihave H1 := (owns_back (U := U) (c : Thread nD τ) arg1 _ f1 hf1) $$ H1
  ihave H2 := (owns_back (U := U) (c : Thread nD τ) arg2 _ f2 rfl) $$ H2
  ihave H3 := (owns_stored (U := U) (c : Thread nD τ) arg3 f3 inb_S1x1_S1x1_0_0 _) $$ H3
  iapply Hk $$ %g4 [] [H1 H2 H3 H4]
  · ipureintro
    subst hg1 hg2 hg3
    have hd : (arg1.view.readAt (Elt F) (Rect.unit (s := S1x1024x4096) (k1_off1 i) S1x1024x1024.size (k1_off1_inb i)).toLoadRect f1) = diagBlk (arg1.view.readAt (Elt F) (Rect.unit (s := S1x1024x4096) ![0, 0, 0] S1x1024x4096.size inb_S1x1024x4096_S1x1024x4096_0_0_0).toLoadRect f1) i := by
      rw [← hf1]; rfl
    rw [hg4, hd]
    rfl
  unfold pre
  isplitl [H1]; · iexact H1
  isplitl [H2]; · iexact H2
  isplitl [H3]; · iexact H3
  iexact H4

end Cert.KernelIdeal.Body.Second
end
-- ==== Proof.KernelIdeal.Acc1.lean ====
module

public import proofs.«01_k».proof.Proof.KernelIdeal.Body1
public import Idealize.ShloMosaic.Lib.Pointwise.Index
public import Idealize.ShloMosaic.Lib.VecWindow
public import Idealize.ShloMosaic.Lib.WritesUnit

@[expose] public section

set_option maxRecDepth 16384

/-! The second call's accumulator read element by element: its two halves after a point's stores. -/

noncomputable section

namespace Cert.KernelIdeal.Body.Second

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid1.Coords)

/-- The accumulator read whole. -/
theorem read_acc (g : Buf (Elt F) ((c : Thread nD τ).loc cc1_scratch0)) (y : S64x4096.Idx) : g y = (Memref.whole cc1_scratch0).view.read (Elt F) g y := rfl

/-! A store's element, inside the rectangle stored and outside it. -/

theorem setTop_mem (w : Vec F S32x4096 .f32) (f : Buf (Elt F) ((c : Thread nD τ).loc cc1_scratch0)) (y : S64x4096.Idx) (z : S32x4096.Idx)
    (h0 : (y 0).val = 0 + (z 0).val) (h1 : (y 1).val = 0 + (z 1).val) : setTop c w f y = w z :=
  (read_acc c _ y).trans <| View.read_writes_cons_unit_of_mem (Memref.whole cc1_scratch0).view f _ w [] y z rfl (Fin.forall_fin_two.mpr ⟨h0, h1⟩)

theorem setTop_not (w : Vec F S32x4096 .f32) (f : Buf (Elt F) ((c : Thread nD τ).loc cc1_scratch0)) (y : S64x4096.Idx)
    (h : ((y 0).val < 0 ∨ 0 + 32 ≤ (y 0).val) ∨ ((y 1).val < 0 ∨ 0 + 4096 ≤ (y 1).val)) : setTop c w f y = f y := by
  refine (read_acc c _ y).trans (Eq.trans ?_ (read_acc c f y).symm)
  rcases h with h | h
  · exact View.read_writes_cons_unit_of_not_mem (Memref.whole cc1_scratch0).view f _ w [] y rfl (0 : Fin 2) h
  · exact View.read_writes_cons_unit_of_not_mem (Memref.whole cc1_scratch0).view f _ w [] y rfl (1 : Fin 2) h

theorem setBot_mem (w : Vec F S32x4096 .f32) (f : Buf (Elt F) ((c : Thread nD τ).loc cc1_scratch0)) (y : S64x4096.Idx) (z : S32x4096.Idx)
    (h0 : (y 0).val = 32 + (z 0).val) (h1 : (y 1).val = 0 + (z 1).val) : setBot c w f y = w z :=
  (read_acc c _ y).trans <| View.read_writes_cons_unit_of_mem (Memref.whole cc1_scratch0).view f _ w [] y z rfl (Fin.forall_fin_two.mpr ⟨h0, h1⟩)

theorem setBot_not (w : Vec F S32x4096 .f32) (f : Buf (Elt F) ((c : Thread nD τ).loc cc1_scratch0)) (y : S64x4096.Idx)
    (h : ((y 0).val < 32 ∨ 32 + 32 ≤ (y 0).val) ∨ ((y 1).val < 0 ∨ 0 + 4096 ≤ (y 1).val)) : setBot c w f y = f y := by
  refine (read_acc c _ y).trans (Eq.trans ?_ (read_acc c f y).symm)
  rcases h with h | h
  · exact View.read_writes_cons_unit_of_not_mem (Memref.whole cc1_scratch0).view f _ w [] y rfl (0 : Fin 2) h
  · exact View.read_writes_cons_unit_of_not_mem (Memref.whole cc1_scratch0).view f _ w [] y rfl (1 : Fin 2) h

theorem setTopCols_mem (w : Vec F S32x1024 .f32) (f : Buf (Elt F) ((c : Thread nD τ).loc cc1_scratch0)) (y : S64x4096.Idx) (z : S32x1024.Idx)
    (h0 : (y 0).val = 0 + (z 0).val) (h1 : (y 1).val = 1024 * (i 0).val + (z 1).val) : setTopCols c i w f y = w z :=
  (read_acc c _ y).trans <| View.read_writes_cons_unit_of_mem (Memref.whole cc1_scratch0).view f _ w [] y z (k1_off3_eq i) (Fin.forall_fin_two.mpr ⟨h0, h1⟩)

theorem setTopCols_not (w : Vec F S32x1024 .f32) (f : Buf (Elt F) ((c : Thread nD τ).loc cc1_scratch0)) (y : S64x4096.Idx)
    (h : ((y 0).val < 0 ∨ 0 + 32 ≤ (y 0).val) ∨ ((y 1).val < 1024 * (i 0).val ∨ 1024 * (i 0).val + 1024 ≤ (y 1).val)) : setTopCols c i w f y = f y := by
  refine (read_acc c _ y).trans (Eq.trans ?_ (read_acc c f y).symm)
  rcases h with h | h
  · exact View.read_writes_cons_unit_of_not_mem (Memref.whole cc1_scratch0).view f _ w [] y (k1_off3_eq i) (0 : Fin 2) h
  · exact View.read_writes_cons_unit_of_not_mem (Memref.whole cc1_scratch0).view f _ w [] y (k1_off3_eq i) (1 : Fin 2) h

theorem setBotCols_mem (w : Vec F S32x1024 .f32) (f : Buf (Elt F) ((c : Thread nD τ).loc cc1_scratch0)) (y : S64x4096.Idx) (z : S32x1024.Idx)
    (h0 : (y 0).val = 32 + (z 0).val) (h1 : (y 1).val = 1024 * (i 0).val + (z 1).val) : setBotCols c i w f y = w z :=
  (read_acc c _ y).trans <| View.read_writes_cons_unit_of_mem (Memref.whole cc1_scratch0).view f _ w [] y z (k1_off5_eq i) (Fin.forall_fin_two.mpr ⟨h0, h1⟩)

theorem setBotCols_not (w : Vec F S32x1024 .f32) (f : Buf (Elt F) ((c : Thread nD τ).loc cc1_scratch0)) (y : S64x4096.Idx)
    (h : ((y 0).val < 32 ∨ 32 + 32 ≤ (y 0).val) ∨ ((y 1).val < 1024 * (i 0).val ∨ 1024 * (i 0).val + 1024 ≤ (y 1).val)) : setBotCols c i w f y = f y := by
  refine (read_acc c _ y).trans (Eq.trans ?_ (read_acc c f y).symm)
  rcases h with h | h
  · exact View.read_writes_cons_unit_of_not_mem (Memref.whole cc1_scratch0).view f _ w [] y (k1_off5_eq i) (0 : Fin 2) h
  · exact View.read_writes_cons_unit_of_not_mem (Memref.whole cc1_scratch0).view f _ w [] y (k1_off5_eq i) (1 : Fin 2) h

/-! The halves' elements. -/

theorem top_apply (f : Buf (Elt F) ((c : Thread nD τ).loc cc1_scratch0)) (z : S32x4096.Idx) (y : S64x4096.Idx)
    (h0 : (y 0).val = (z 0).val) (h1 : (y 1).val = (z 1).val) : top c f z = f y := by
  refine congrArg f (funext fun a => Fin.ext ?_)
  match a with
  | ⟨0, _⟩ => show 0 + 1 * (z 0).val = (y 0).val; omega
  | ⟨1, _⟩ => show 0 + 1 * (z 1).val = (y 1).val; omega

theorem bot_apply (f : Buf (Elt F) ((c : Thread nD τ).loc cc1_scratch0)) (z : S32x4096.Idx) (y : S64x4096.Idx)
    (h0 : (y 0).val = 32 + (z 0).val) (h1 : (y 1).val = (z 1).val) : bot c f z = f y := by
  refine congrArg f (funext fun a => Fin.ext ?_)
  match a with
  | ⟨0, _⟩ => show 32 + 1 * (z 0).val = (y 0).val; omega
  | ⟨1, _⟩ => show 0 + 1 * (z 1).val = (y 1).val; omega

theorem topCols_apply (f : Buf (Elt F) ((c : Thread nD τ).loc cc1_scratch0)) (z : S32x1024.Idx) (y : S64x4096.Idx)
    (h0 : (y 0).val = (z 0).val) (h1 : (y 1).val = 1024 * (i 0).val + (z 1).val) : topCols c i f z = f y := by
  have e0 := congrFun (k1_off3_eq i) 0
  have e1 := congrFun (k1_off3_eq i) 1
  refine congrArg f (funext fun a => Fin.ext ?_)
  match a with
  | ⟨0, _⟩ => show k1_off3 i 0 + 1 * (z 0).val = (y 0).val; rw [e0]; show 0 + 1 * (z 0).val = (y 0).val; omega
  | ⟨1, _⟩ => show k1_off3 i 1 + 1 * (z 1).val = (y 1).val; rw [e1]; show 1024 * (i 0).val + 1 * (z 1).val = (y 1).val; omega

theorem botCols_apply (f : Buf (Elt F) ((c : Thread nD τ).loc cc1_scratch0)) (z : S32x1024.Idx) (y : S64x4096.Idx)
    (h0 : (y 0).val = 32 + (z 0).val) (h1 : (y 1).val = 1024 * (i 0).val + (z 1).val) : botCols c i f z = f y := by
  have e0 := congrFun (k1_off5_eq i) 0
  have e1 := congrFun (k1_off5_eq i) 1
  refine congrArg f (funext fun a => Fin.ext ?_)
  match a with
  | ⟨0, _⟩ => show k1_off5 i 0 + 1 * (z 0).val = (y 0).val; rw [e0]; show 32 + 1 * (z 0).val = (y 0).val; omega
  | ⟨1, _⟩ => show k1_off5 i 1 + 1 * (z 1).val = (y 1).val; rw [e1]; show 1024 * (i 0).val + 1 * (z 1).val = (y 1).val; omega

/-- The point's columns of a half. -/
def cols (w : Vec F S32x4096 .f32) : Vec F S32x1024 .f32 := fun z =>
  w (ix2 (⟨(z 0).val, (z 0).isLt⟩ : Fin 32) (⟨1024 * (i 0).val + (z 1).val, by have := (i 0).isLt; have := (z 1).isLt; change (i 0).val < 4 at *; change (z 1).val < 1024 at *; omega⟩ : Fin 4096))

/-- A half with the point's columns replaced. -/
def setCols (v : Vec F S32x1024 .f32) (w : Vec F S32x4096 .f32) : Vec F S32x4096 .f32 := fun y =>
  if (y 1).val / 1024 = (i 0).val then v (ix2 (⟨(y 0).val, (y 0).isLt⟩ : Fin 32) (⟨(y 1).val % 1024, Nat.mod_lt _ (by decide)⟩ : Fin 1024)) else w y

variable (x1 : Vec F S1x1024x4096 .f32) (x2 : Vec F S3x4096x32 .bf16)

/-- The upper half a point leaves, once it brought it up to `wt`. -/
def topNew (wt : Vec F S32x4096 .f32) : Vec F S32x4096 .f32 :=
  setCols i (k1_pay1 (k1_pay12 x1 (diagBlk x1 i) (hrow0 x2 i)) (cols i wt)) wt

/-- The lower half a point leaves, once it brought it up to `wb`. -/
def botNew (wb : Vec F S32x4096 .f32) : Vec F S32x4096 .f32 :=
  setCols i (k1_pay6 (k1_pay9 x1 (diagBlk x1 i)) (hrow1 x2 i) (cols i wb)) wb

theorem topCols_setTop (wt : Vec F S32x4096 .f32) (f : Buf (Elt F) ((c : Thread nD τ).loc cc1_scratch0)) : topCols c i (setTop c wt f) = cols i wt := by
  funext z
  have z0 : (z 0).val < 32 := (z 0).isLt
  have z1 : (z 1).val < 1024 := (z 1).isLt
  have i0 : (i 0).val < 4 := (i 0).isLt
  rw [topCols_apply c i _ z (ix2 (⟨(z 0).val, by omega⟩ : Fin 64) (⟨1024 * (i 0).val + (z 1).val, by omega⟩ : Fin 4096)) rfl rfl]
  exact setTop_mem c wt f _ (ix2 (⟨(z 0).val, z0⟩ : Fin 32) (⟨1024 * (i 0).val + (z 1).val, by omega⟩ : Fin 4096)) (Nat.zero_add _).symm (Nat.zero_add _).symm

theorem botCols_setBot (wb : Vec F S32x4096 .f32) (f : Buf (Elt F) ((c : Thread nD τ).loc cc1_scratch0)) : botCols c i (setBot c wb f) = cols i wb := by
  funext z
  have z0 : (z 0).val < 32 := (z 0).isLt
  have z1 : (z 1).val < 1024 := (z 1).isLt
  have i0 : (i 0).val < 4 := (i 0).isLt
  rw [botCols_apply c i _ z (ix2 (⟨32 + (z 0).val, by omega⟩ : Fin 64) (⟨1024 * (i 0).val + (z 1).val, by omega⟩ : Fin 4096)) rfl rfl]
  exact setBot_mem c wb f _ (ix2 (⟨(z 0).val, z0⟩ : Fin 32) (⟨1024 * (i 0).val + (z 1).val, by omega⟩ : Fin 4096)) rfl (Nat.zero_add _).symm

theorem midTop_eq (wt : Vec F S32x4096 .f32) (f : Buf (Elt F) ((c : Thread nD τ).loc cc1_scratch0)) :
    midTop x1 x2 c i wt f = setTopCols c i (k1_pay1 (k1_pay12 x1 (diagBlk x1 i) (hrow0 x2 i)) (cols i wt)) (setTop c wt f) := by
  unfold midTop; rw [topCols_setTop]

theorem bot_midTop (wt : Vec F S32x4096 .f32) (f : Buf (Elt F) ((c : Thread nD τ).loc cc1_scratch0)) : bot c (midTop x1 x2 c i wt f) = bot c f := by
  rw [midTop_eq]
  funext z
  have z0 : (z 0).val < 32 := (z 0).isLt
  rw [bot_apply c _ z (ix2 (⟨32 + (z 0).val, by omega⟩ : Fin 64) (⟨(z 1).val, (z 1).isLt⟩ : Fin 4096)) rfl rfl,
    bot_apply c f z (ix2 (⟨32 + (z 0).val, by omega⟩ : Fin 64) (⟨(z 1).val, (z 1).isLt⟩ : Fin 4096)) rfl rfl]
  rw [setTopCols_not c i _ _ _ (.inl (.inr (Nat.le_add_right 32 _)))]
  exact setTop_not c wt f _ (.inl (.inr (Nat.le_add_right 32 _)))

theorem finish_eq (wt wb : Vec F S32x4096 .f32) (f : Buf (Elt F) ((c : Thread nD τ).loc cc1_scratch0)) :
    finish x1 x2 c i wt wb f = setBotCols c i (k1_pay6 (k1_pay9 x1 (diagBlk x1 i)) (hrow1 x2 i) (cols i wb)) (setBot c wb (midTop x1 x2 c i wt f)) := by
  unfold finish; rw [botCols_setBot]

theorem top_finish (wt wb : Vec F S32x4096 .f32) (f : Buf (Elt F) ((c : Thread nD τ).loc cc1_scratch0)) : top c (finish x1 x2 c i wt wb f) = topNew i x1 x2 wt := by
  rw [finish_eq, midTop_eq]
  funext z
  have z0 : (z 0).val < 32 := (z 0).isLt
  have z1 : (z 1).val < 4096 := (z 1).isLt
  rw [top_apply c _ z (ix2 (⟨(z 0).val, by omega⟩ : Fin 64) (⟨(z 1).val, z1⟩ : Fin 4096)) rfl rfl,
    setBotCols_not c i _ _ _ (.inl (.inl z0)), setBot_not c _ _ _ (.inl (.inl z0))]
  unfold topNew setCols
  by_cases h : (z 1).val / 1024 = (i 0).val
  · rw [if_pos h]
    exact setTopCols_mem c i _ _ _ _ (Nat.zero_add _).symm (by show (z 1).val = 1024 * (i 0).val + (z 1).val % 1024; omega)
  · rw [if_neg h, setTopCols_not c i _ _ _ (.inr (by show (z 1).val < _ ∨ _ ≤ (z 1).val; omega))]
    exact setTop_mem c wt f _ z (Nat.zero_add _).symm (Nat.zero_add _).symm

theorem bot_finish (wt wb : Vec F S32x4096 .f32) (f : Buf (Elt F) ((c : Thread nD τ).loc cc1_scratch0)) : bot c (finish x1 x2 c i wt wb f) = botNew i x1 x2 wb := by
  rw [finish_eq]
  funext z
  have z0 : (z 0).val < 32 := (z 0).isLt
  have z1 : (z 1).val < 4096 := (z 1).isLt
  rw [bot_apply c _ z (ix2 (⟨32 + (z 0).val, by omega⟩ : Fin 64) (⟨(z 1).val, z1⟩ : Fin 4096)) rfl rfl]
  unfold botNew setCols
  by_cases h : (z 1).val / 1024 = (i 0).val
  · rw [if_pos h]
    exact setBotCols_mem c i _ _ _ _ rfl (by show (z 1).val = 1024 * (i 0).val + (z 1).val % 1024; omega)
  · rw [if_neg h, setBotCols_not c i _ _ _ (.inr (by show (z 1).val < _ ∨ _ ≤ (z 1).val; omega))]
    exact setBot_mem c wb _ _ z rfl (Nat.zero_add _).symm

end Cert.KernelIdeal.Body.Second
-- ==== Proof.KernelIdeal.Region1.lean ====
module

public import proofs.«01_k».proof.Proof.KernelIdeal.Acc1
public import proofs.«01_k».proof.Proof.Gen.KernelIdeal.Launch
public import proofs.«01_k».proof.Proof.Gen.KernelIdeal.Points
public import Idealize.ShloMosaic.Lib.Pipeline.FrameBody

@[expose] public section

set_option maxRecDepth 16384

/-! The second call's data: the accumulator's halves after each point, the value its output holds, and the body's obligation. -/

noncomputable section

namespace Cert.KernelIdeal.Data.Second

open Cert.KernelIdeal Cert.KernelIdeal.Gen Cert.KernelIdeal.Body.Second
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

variable (c : Dev nD) (A : (w : Fin cfg1.W) → Buf (Elt F) ((cfg1.win w).arr.view.loc (c.tc : Thread nD τ)))

/-- The `n`-th point of the grid. -/
def pt (n : ℕ) : Fin cfg1.N := ⟨n % 4, by rw [show cfg1.N = 4 from N_1]; exact Nat.mod_lt _ (by decide)⟩

theorem pt_lt (t : Fin cfg1.N) : t.val < 4 := lt_of_lt_of_eq t.isLt N_1

theorem pt_val (t : Fin cfg1.N) : pt t.val = t :=
  Fin.ext (Nat.mod_eq_of_lt (lt_of_lt_of_eq t.isLt N_1))

/-- A window's block at a point, read of the window's array. -/
def iblk (w : Fin cfg1.W) (t : Fin cfg1.N) : ((cfg1.win w).xblock (cfg1.grid.coords t)).Idx → Elt F (cfg1.win w).elt :=
  ((cfg1.win w).blk t).view.read (Elt F) (A w)

/-- The accumulator's upper half after point `n`. -/
def topV : ℕ → Vec F S32x4096 .f32
  | 0 => topNew (grid1.coords (pt 0)) (iblk c A 0 (pt 0)) (iblk c A 1 (pt 0)) (k1_pay13 (iblk c A 0 (pt 0)) (hrow0 (iblk c A 1 (pt 0)) (grid1.coords (pt 0))))
  | n + 1 => topNew (grid1.coords (pt (n + 1))) (iblk c A 0 (pt (n + 1))) (iblk c A 1 (pt (n + 1)))
      (k1_pay14 (iblk c A 0 (pt (n + 1))) (hrow0 (iblk c A 1 (pt (n + 1))) (grid1.coords (pt (n + 1)))) (topV n))

/-- The accumulator's lower half after point `n`. -/
def botV : ℕ → Vec F S32x4096 .f32
  | 0 => botNew (grid1.coords (pt 0)) (iblk c A 0 (pt 0)) (iblk c A 1 (pt 0)) (k1_pay4 (k1_pay8 (iblk c A 0 (pt 0))) (hrow1 (iblk c A 1 (pt 0)) (grid1.coords (pt 0))))
  | n + 1 => botNew (grid1.coords (pt (n + 1))) (iblk c A 0 (pt (n + 1))) (iblk c A 1 (pt (n + 1)))
      (k1_pay5 (k1_pay8 (iblk c A 0 (pt (n + 1)))) (hrow1 (iblk c A 1 (pt (n + 1))) (grid1.coords (pt (n + 1)))) (botV n))

/-- The call's output. -/
def lsumV : F .f32 := k1_pay7 (topV c A 3) (hall0 (iblk c A 1 (pt 3))) (botV c A 3) (hall1 (iblk c A 1 (pt 3)))

/-- What the accumulator holds before point `n`. -/
def MInv (n : ℕ) (f : Buf (Elt F) ((c : Thread nD τ).loc cc1_scratch0)) : Prop :=
  ∀ k, n = k + 1 → top c f = topV c A k ∧ bot c f = botV c A k

/-- What holds before point `n`. -/
def inv (n : ℕ) : sProp 𝕄 :=
  iprop((∃ f : Buf (Elt F) ((c : Thread nD τ).loc cc1_scratch0), ⌜MInv c A n f⌝ ∗ (((c : Thread nD τ).loc cc1_scratch0) ↦{fullShare} f))
    ∗ Pipeline.scopedRestBut spec1 c [cc1_scratch0])

/-- The second call's data. -/
def dat1 : Dat τ (Elt F) Unit ℕ U ℕ cfg1 c where
  A := A
  after := fun w t => match w with
    | ⟨0, _⟩ => iblk c A 0 t
    | ⟨1, _⟩ => iblk c A 1 t
    | ⟨2, _⟩ => fun _ => lsumV c A
    | ⟨_ + 3, h⟩ => absurd h (Nat.not_lt.2 (Nat.le_add_left _ _))
  Φ := fun t => inv c A t.val
  q := fun _ => fullShare
  owed := fun _ => 0

theorem before_0 (t : Fin cfg1.N) (d : (cfg1.win 0).block.Idx → Elt F (cfg1.win 0).elt) : (dat1 (U := U) c A).before 0 t d = iblk c A 0 t := by
  refine (Dat.before_in_eq_fetched (dat1 (U := U) c A) 0 rfl (fun _ => rfl) (fun _ _ _ => rfl) (fun t => rfl) t d).trans ?_
  rfl

theorem before_1 (t : Fin cfg1.N) (d : (cfg1.win 1).block.Idx → Elt F (cfg1.win 1).elt) : (dat1 (U := U) c A).before 1 t d = iblk c A 1 t := by
  refine (Dat.before_in_eq_fetched (dat1 (U := U) c A) 1 rfl (fun _ => rfl) (fun _ _ _ => rfl) (fun t => rfl) t d).trans ?_
  rfl

instance (i : grid1.Coords) : Decidable (IsFirst i) := by unfold IsFirst; infer_instance
instance (i : grid1.Coords) : Decidable (IsLater i) := by unfold IsLater; infer_instance

theorem first_iff : ∀ t : Fin grid1.N, IsFirst (grid1.coords t) ↔ t.val = 0 := by decide +kernel
theorem later_iff : ∀ t : Fin grid1.N, IsLater (grid1.coords t) ↔ t.val ≠ 0 := by decide +kernel
theorem cond5_iff : ∀ t : Fin grid1.N, k1_cond5 (grid1.coords t) = 1#1 ↔ t.val = 3 := by decide +kernel
theorem idle_iff : ∀ t : Fin grid1.N, idle1 2 (grid1.coords t) = decide (t.val ≠ 3) := by decide +kernel

/-- The point's windows. -/
def wins (t : Fin cfg1.N) (Y : Vec F S1x1 .f32) : sProp 𝕄 :=
  iprop(owns (c : Thread nD τ) (st1_0 t) fullShare (iblk c A 0 t) ∗ owns (c : Thread nD τ) (st1_1 t) fullShare (iblk c A 1 t) ∗ owns (c : Thread nD τ) (st1_2 t) fullShare Y)

set_option maxHeartbeats 1000000 in
/-- The body at any point: the output is stored at the last. -/
theorem body1 (t : Fin cfg1.N) (E : Set ℕ) (Y : Vec F S1x1 .f32) :
    iprop(inv (U := U) c A t.val ∗ wins (U := U) c A t Y)
      ⊢ wp frame (wpE (defs₀ (F := F)) Variants.none c none) E (bodyAt1 t)
          (fun _ => iprop(inv (U := U) c A (t.val + 1) ∗ wins (U := U) c A t (if t.val = 3 then fun _ => lsumV c A else Y))) := by
  have h4 := pt_lt t
  unfold inv wins
  iintro ⟨⟨⟨%f, %hf, Hf⟩, HR⟩, H0, H1, H2⟩
  rcases Nat.eq_zero_or_pos t.val with h0 | h0
  · iapply (runFirst (U := U) (st1_0 t) _ (st1_1 t) _ (st1_2 t) _ (iblk c A 0 t) (iblk c A 1 t) Y c E (grid1.coords t) f
      ((first_iff t).mpr h0) (fun h => (later_iff t).mp h h0) (fun h => by have := (cond5_iff t).mp h; omega))
    isplitl [H0 H1 H2 Hf]
    · unfold pre
      isplitl [H0]; · iexact H0
      isplitl [H1]; · iexact H1
      isplitl [H2]; · iexact H2
      iexact Hf
    iintro %g %hg Hp
    ihave Hp := (pre_open (U := U) (st1_0 t) (st1_1 t) (st1_2 t) (iblk c A 0 t) (iblk c A 1 t) Y c g) $$ Hp
    icases Hp with ⟨H0, H1, H2, Hf⟩
    isplitl [Hf HR]
    · isplitl [Hf]
      · iexists g; isplitr
        · ipureintro
          intro k hk
          have hk0 : k = 0 := by omega
          have ht : t = pt 0 := by rw [← h0]; exact (pt_val t).symm
          subst hk0
          rw [hg, top_finish, bot_finish, ht]
          exact ⟨rfl, rfl⟩
        · iexact Hf
      · iexact HR
    · rw [if_neg (by omega)]
      isplitl [H0]; · iexact H0
      isplitl [H1]; · iexact H1
      iexact H2
  obtain ⟨k, hk⟩ : ∃ k, t.val = k + 1 := ⟨t.val - 1, by omega⟩
  have ht : t = pt (k + 1) := by rw [← hk]; exact (pt_val t).symm
  obtain ⟨htop, hbot⟩ := hf k hk
  have hM : ∀ g, g = finish (iblk c A 0 t) (iblk c A 1 t) c (grid1.coords t) (k1_pay14 (iblk c A 0 t) (hrow0 (iblk c A 1 t) (grid1.coords t)) (top c f))
      (k1_pay5 (k1_pay8 (iblk c A 0 t)) (hrow1 (iblk c A 1 t) (grid1.coords t)) (bot c (midTop (iblk c A 0 t) (iblk c A 1 t) c (grid1.coords t) (k1_pay14 (iblk c A 0 t) (hrow0 (iblk c A 1 t) (grid1.coords t)) (top c f)) f))) f →
      top c g = topV c A (k + 1) ∧ bot c g = botV c A (k + 1) := by
    intro g hg
    rw [hg, top_finish, bot_finish, bot_midTop, htop, hbot, ht]
    exact ⟨rfl, rfl⟩
  by_cases h3 : t.val = 3
  · iapply (runLast (U := U) (st1_0 t) _ (st1_1 t) _ (st1_2 t) _ (iblk c A 0 t) (iblk c A 1 t) Y c E (grid1.coords t) f
      (fun h => by have := (first_iff t).mp h; omega) ((later_iff t).mpr (by omega)) ((cond5_iff t).mpr h3))
    isplitl [H0 H1 H2 Hf]
    · unfold pre
      isplitl [H0]; · iexact H0
      isplitl [H1]; · iexact H1
      isplitl [H2]; · iexact H2
      iexact Hf
    iintro %g %hg Hp
    have hg' := hM g hg
    ihave Hp := (pre_open (U := U) (st1_0 t) (st1_1 t) (st1_2 t) (iblk c A 0 t) (iblk c A 1 t) _ c g) $$ Hp
    icases Hp with ⟨H0, H1, H2, Hf⟩
    isplitl [Hf HR]
    · isplitl [Hf]
      · iexists g; isplitr
        · ipureintro
          intro k' hk'
          obtain rfl : k' = k + 1 := by omega
          exact hg'
        · iexact Hf
      · iexact HR
    · rw [if_pos h3]
      isplitl [H0]; · iexact H0
      isplitl [H1]; · iexact H1
      have e : lsumV c A = k1_pay7 (top c g) (hall0 (iblk c A 1 t)) (bot c g) (hall1 (iblk c A 1 t)) := by
        have hk2 : k = 2 := by omega
        subst hk2
        rw [hg'.1, hg'.2, ht]; rfl
      rw [e]
      iexact H2
  · iapply (runMid (U := U) (st1_0 t) _ (st1_1 t) _ (st1_2 t) _ (iblk c A 0 t) (iblk c A 1 t) Y c E (grid1.coords t) f
      (fun h => by have := (first_iff t).mp h; omega) ((later_iff t).mpr (by omega)) (fun h => h3 ((cond5_iff t).mp h)))
    isplitl [H0 H1 H2 Hf]
    · unfold pre
      isplitl [H0]; · iexact H0
      isplitl [H1]; · iexact H1
      isplitl [H2]; · iexact H2
      iexact Hf
    iintro %g %hg Hp
    have hg' := hM g hg
    ihave Hp := (pre_open (U := U) (st1_0 t) (st1_1 t) (st1_2 t) (iblk c A 0 t) (iblk c A 1 t) _ c g) $$ Hp
    icases Hp with ⟨H0, H1, H2, Hf⟩
    isplitl [Hf HR]
    · isplitl [Hf]
      · iexists g; isplitr
        · ipureintro
          intro k' hk'
          obtain rfl : k' = k + 1 := by omega
          exact hg'
        · iexact Hf
      · iexact HR
    · rw [if_neg h3]
      isplitl [H0]; · iexact H0
      isplitl [H1]; · iexact H1
      iexact H2

set_option maxHeartbeats 1000000 in
/-- The body's obligation. -/
theorem obl1 : BodyObligation (dat1 (U := U) c A) (defs₀ (F := F)) Variants.none () Set.univ := fun t => by
  have h4 := pt_lt t
  rw [bigSep_W1, bigSep_W1]
  show iprop(inv (U := U) c A t.val ∗ (dat1 (U := U) c A).owesAt () t.castSucc
      ∗ (∃ d, owns (c : Thread nD τ) (st1_0 t) fullShare ((dat1 (U := U) c A).before 0 t d)) ∗ (∃ d, owns (c : Thread nD τ) (st1_1 t) fullShare ((dat1 (U := U) c A).before 1 t d))
      ∗ (∃ d, owns (c : Thread nD τ) (st1_2 t) fullShare ((dat1 (U := U) c A).before 2 t d)))
    ⊢ wp frame (wpE (defs₀ (F := F)) Variants.none c none) Set.univ (bodyAt1 t) (fun _ => iprop(inv (U := U) c A (t.val + 1) ∗ (dat1 (U := U) c A).owesAt () t.castSucc
      ∗ owns (c : Thread nD τ) (st1_0 t) fullShare (iblk c A 0 t) ∗ owns (c : Thread nD τ) (st1_1 t) fullShare (iblk c A 1 t)
      ∗ match idle1 2 (grid1.coords t) with
        | true => match (cfg1.win 2).flush t with
          | false => iprop(∃ d, owns (c : Thread nD τ) (st1_2 t) fullShare ((dat1 (U := U) c A).before 2 t d))
          | true => owns (c : Thread nD τ) (st1_2 t) fullShare ((dat1 (U := U) c A).after 2 t)
        | false => owns (c : Thread nD τ) (st1_2 t) fullShare ((dat1 (U := U) c A).after 2 t)))
  iintro ⟨Hi, HO, ⟨%d0, H0⟩, ⟨%d1, H1⟩, ⟨%d2, H2⟩⟩
  rw [before_0, before_1]
  ihave Hw := (body1 c A t Set.univ ((dat1 (U := U) c A).before 2 t d2)) $$ [Hi H0 H1 H2]
  · isplitl [Hi]; · iexact Hi
    unfold wins
    isplitl [H0]; · iexact H0
    isplitl [H1]; · iexact H1
    iexact H2
  iapply (wp_wand_r frame _ _ (Q := fun _ => iprop(inv (U := U) c A (t.val + 1) ∗ wins (U := U) c A t (if t.val = 3 then fun _ => lsumV c A else (dat1 (U := U) c A).before 2 t d2))))
  isplitl [Hw]; · iexact Hw
  iintro %u Hp
  unfold wins
  icases Hp with ⟨Hi, H0, H1, H2⟩
  isplitl [Hi]; · iexact Hi
  isplitl [HO]; · iexact HO
  isplitl [H0]; · iexact H0
  isplitl [H1]; · iexact H1
  by_cases h3 : t.val = 3
  · rw [if_pos h3, show idle1 2 (grid1.coords t) = false by rw [idle_iff]; simp [h3]]
    iexact H2
  · rw [if_neg h3, show idle1 2 (grid1.coords t) = true by rw [idle_iff]; simp [h3],
      show (cfg1.win 2).flush t = false from Bool.eq_false_iff.mpr fun h => by have := (flush1_2 t).mp h; omega]
    iexists d2
    iexact H2

end Cert.KernelIdeal.Data.Second
-- ==== Proof.KernelIdeal.Launch0.lean ====
module

public import proofs.«01_k».proof.Proof.KernelIdeal.Region0
public import proofs.«01_k».proof.Proof.KernelIdeal.Region1
public import proofs.«01_k».proof.Proof.Gen.KernelIdeal.Regions
public import Idealize.ShloMosaic.Lib.Pipeline.ArrRel
public import Idealize.ShloMosaic.Lib.Pipeline.RegionArraysS
public import Idealize.ShloMosaic.Lib.Pipeline.RegionArraysF
public import Idealize.ShloMosaic.Lib.Pipeline.RegionsForgetR
public import Idealize.ShloMosaic.Lib.Pipeline.RegionsForgetLinks
public import Idealize.ShloMosaic.Lib.HostLoop.Lifted

@[expose] public section

set_option maxRecDepth 16384

noncomputable section

/-! The first call as an item of the program: from every buffer at named contents to the inputs as they were and the results as the call's proof data allow. -/
namespace Cert.KernelIdeal.Run

open Cert.KernelIdeal Cert.KernelIdeal.Gen Cert.KernelIdeal.Data
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- One copy of the pipeline library's algebra for each call. -/
abbrev UU : Type := IProdConst (Fin 2) (Rounds.URounds (GSem nD τ sig) Unit) × Counters

local notation "𝕄" => MT nD τ sig Unit (Elt F) ℕ UU ℕ

/-- The waits' one index, at the cells of the core that runs the program, all of level zero. -/
abbrev Lv : GSem nD τ sig → Finset Unit := fun g => if g.1.2 = .tc then {()} else ∅
theorem mem_Lv (c : Dev nD) (s : SemLoc sig) : () ∈ Lv ((c : Thread nD τ), s) := by
  show () ∈ (if (Proc.tc : Proc τ) = .tc then ({()} : Finset Unit) else ∅)
  rw [if_pos rfl]; exact Finset.mem_singleton_self _

abbrev lv : GSem nD τ sig → Unit → ℕ := fun _ _ => 0

/-- The valuations' type, one for the whole program. -/
abbrev Vals (F : FTy → Type) : Type := Valuation τ sig (Elt F)

/-- The first call's arrays, read of a valuation. -/
abbrev arrs0 (c : Dev nD) (W : Vals F) : (w : Fin cfg0.W) → Buf (Elt F) ((cfg0.win w).arr.view.loc (c.tc : Thread nD τ)) :=
  fun w => W (Proc.devRef .tc (arrRef spec0 w))

/-- The second call's arrays, read of a valuation. -/
abbrev arrs1 (c : Dev nD) (W : Vals F) : (w : Fin cfg1.W) → Buf (Elt F) ((cfg1.win w).arr.view.loc (c.tc : Thread nD τ)) :=
  fun w => W (Proc.devRef .tc (arrRef spec1 w))

/-- The calls' proof data, the arrays read of a valuation. -/
def pd (W : Dev nD → Vals F) : (p : Fin 2) → (c : Dev nD) → Dat τ (Elt F) Unit ℕ UU ℕ (Pipeline.pin (pcfgs (F := F)) adm p) c
  | ⟨0, _⟩ => fun c => dat0 c (arrs0 c (W c))
  | ⟨1, _⟩ => fun c => Second.dat1 c (arrs1 c (W c))
  | ⟨_ + 2, h⟩ => absurd h (Nat.not_lt.2 (Nat.le_add_left _ _))

/-- The first call's data with the results held to a predicate. -/
abbrev rel0 (c : Dev nD) (W : Vals F) : RDat τ (Elt F) Unit ℕ UU ℕ cfg0 c := (dat0 c (arrs0 c W)).toRRel fgt (Rl c (arrs0 c W))

/-- The calls' proof data, the first call's results held to a predicate. -/
def rd (W : Dev nD → Vals F) : (p : Fin 2) → (c : Dev nD) → RDat τ (Elt F) Unit ℕ UU ℕ (Pipeline.pin (pcfgs (F := F)) adm p) c
  | ⟨0, _⟩ => fun c => rel0 c (W c)
  | ⟨1, _⟩ => fun c => (pd W 1 c).toR
  | ⟨_ + 2, h⟩ => absurd h (Nat.not_lt.2 (Nat.le_add_left _ _))

/-- The references of the first call's results. -/
abbrev outs0 : List (Ref sig .tc) := [main_call0_v7_0, main_call0_v7_1, main_call0_v7_2, main_call0_v7_3]

/-- What is known of the buffers after the first call entered at `V`: every buffer but the results is as it was, and the arrays hold
    what the call's proof data allow. -/
def Left (c : Dev nD) (V X : Vals F) : Prop :=
  (∀ b : DevRef τ sig, b ∉ outs0.map (Proc.devRef (τ := τ) .tc) → X b = V b) ∧ ∀ w, (rel0 c V).ArrAt w cfg0.N (X (Proc.devRef .tc (arrRef spec0 w)))

/-- The valuation with the four results replaced. -/
def put (V : Vals F) (c : Dev nD) (A : (w : Fin cfg0.W) → Buf (Elt F) ((cfg0.win w).arr.view.loc (c.tc : Thread nD τ))) : Vals F :=
  Function.update (Function.update (Function.update (Function.update V
    (Proc.devRef .tc main_call0_v7_0) (A 9)) (Proc.devRef .tc main_call0_v7_1) (A 10)) (Proc.devRef .tc main_call0_v7_2) (A 11)) (Proc.devRef .tc main_call0_v7_3) (A 12)

variable (V : Vals F) (c : Dev nD) (A : (w : Fin cfg0.W) → Buf (Elt F) ((cfg0.win w).arr.view.loc (c.tc : Thread nD τ)))

theorem put_off (b : DevRef τ sig) (h : b ∉ outs0.map (Proc.devRef (τ := τ) .tc)) : put V c A b = V b := by
  simp only [List.map_cons, List.map_nil, List.mem_cons, List.not_mem_nil, or_false, not_or] at h
  unfold put
  rw [Function.update_of_ne h.2.2.2, Function.update_of_ne h.2.2.1, Function.update_of_ne h.2.1, Function.update_of_ne h.1]

theorem put_9 : put V c A (Proc.devRef .tc main_call0_v7_0) = A 9 := by
  unfold put
  rw [Function.update_of_ne (by decide), Function.update_of_ne (by decide), Function.update_of_ne (by decide), Function.update_self]

theorem put_10 : put V c A (Proc.devRef .tc main_call0_v7_1) = A 10 := by
  unfold put
  rw [Function.update_of_ne (by decide), Function.update_of_ne (by decide), Function.update_self]

theorem put_11 : put V c A (Proc.devRef .tc main_call0_v7_2) = A 11 := by
  unfold put
  rw [Function.update_of_ne (by decide), Function.update_self]

theorem put_12 : put V c A (Proc.devRef .tc main_call0_v7_3) = A 12 := by
  unfold put
  rw [Function.update_self]

/-- The first nine windows are inputs, off the results. -/
theorem ins_off : ∀ w : Fin cfg0.W, w.val < 9 → (cfg0.win w).isOut = false ∧ Proc.devRef (τ := τ) .tc (arrRef spec0 w) ∉ outs0.map (Proc.devRef (τ := τ) .tc) := by
  decide +kernel

theorem put_in (h : ∀ w, (rel0 c V).ArrAt w cfg0.N (A w)) (w : Fin cfg0.W) (hw : w.val < 9) : A w = put V c A (Proc.devRef .tc (arrRef spec0 w)) := by
  have hi := ins_off w hw
  rw [put_off V c A _ hi.2]
  have hA := h w
  rw [RDat.ArrAt_in _ _ hi.1] at hA
  exact hA

theorem share0 (W : Dev nD → Vals F) (w : Fin cfg0.W) : (pd W 0 c).share w = fullShare := by
  show (dat0 (U := UU) c (arrs0 c (W c))).share w = fullShare
  unfold Dat.share; split <;> rfl

/-- The arrays found at the end are the ones `put` names. -/
theorem put_arr (h : ∀ w, (rel0 c V).ArrAt w cfg0.N (A w)) : (w : Fin cfg0.W) → A w = put V c A (Proc.devRef .tc (arrRef spec0 w))
  | ⟨9, _⟩ => (put_9 V c A).symm
  | ⟨10, _⟩ => (put_10 V c A).symm
  | ⟨11, _⟩ => (put_11 V c A).symm
  | ⟨12, _⟩ => (put_12 V c A).symm
  | ⟨0, hw⟩ => put_in V c A h ⟨0, hw⟩ (Nat.ble_eq.mp rfl)
  | ⟨1, hw⟩ => put_in V c A h ⟨1, hw⟩ (Nat.ble_eq.mp rfl)
  | ⟨2, hw⟩ => put_in V c A h ⟨2, hw⟩ (Nat.ble_eq.mp rfl)
  | ⟨3, hw⟩ => put_in V c A h ⟨3, hw⟩ (Nat.ble_eq.mp rfl)
  | ⟨4, hw⟩ => put_in V c A h ⟨4, hw⟩ (Nat.ble_eq.mp rfl)
  | ⟨5, hw⟩ => put_in V c A h ⟨5, hw⟩ (Nat.ble_eq.mp rfl)
  | ⟨6, hw⟩ => put_in V c A h ⟨6, hw⟩ (Nat.ble_eq.mp rfl)
  | ⟨7, hw⟩ => put_in V c A h ⟨7, hw⟩ (Nat.ble_eq.mp rfl)
  | ⟨8, hw⟩ => put_in V c A h ⟨8, hw⟩ (Nat.ble_eq.mp rfl)
  | ⟨_ + 13, h⟩ => absurd h (Nat.not_lt.2 (Nat.le_add_left _ _))

theorem put_left (h : ∀ w, (rel0 c V).ArrAt w cfg0.N (A w)) : Left c V (put V c A) :=
  ⟨put_off V c A, fun w => by rw [← put_arr V c A h w]; exact h w⟩

theorem arrs_ucRefs0 : arrRefs (τ := τ) spec0 ⊆ ucRefs τ sig := arrRefs_sub_ucRefs spec0 (by decide)

/-- Off the first call's arrays nothing changes. -/
theorem put_rest : ∀ b ∈ ucRefs τ sig \ arrRefs (τ := τ) spec0, put V c A b = V b := fun b hb => by
  refine put_off V c A b fun hm => (Finset.mem_sdiff.mp hb).2 ?_
  obtain ⟨r, hr, rfl⟩ := List.mem_map.mp hm
  refine Finset.mem_map.mpr ⟨r, Finset.mem_image.mpr ?_, rfl⟩
  fin_cases hr
  · exact ⟨9, Finset.mem_univ _, rfl⟩
  · exact ⟨10, Finset.mem_univ _, rfl⟩
  · exact ⟨11, Finset.mem_univ _, rfl⟩
  · exact ⟨12, Finset.mem_univ _, rfl⟩

/-- What rides beside the buffers: the core owes nothing, and its generator is somewhere. -/
def beside (c : Dev nD) : sProp 𝕄 := iprop((∃ r, prngReg c r) ∗ ∃ Wd, owes (c : Thread nD τ) (0 : CellTallies nD τ sig Unit) Wd)

/-- The scoped buffers make the invariant before the first point. -/
theorem inv_start (A : (w : Fin cfg0.W) → Buf (Elt F) ((cfg0.win w).arr.view.loc (c.tc : Thread nD τ))) :
    (Pipeline.scopedRest (Ix := Unit) (Name := ℕ) (U := UU) (Lvl := ℕ) (Val := Elt F) spec0 c : sProp 𝕄) ⊢ Data.inv c A 0 := by
  rw [scopedRest0_eq]
  unfold Data.inv others
  iintro ⟨⟨%f, Hf⟩, ⟨%g, Hg⟩, H⟩
  iexists f, g
  isplitr; · ipureintro; intro i hi; exact absurd hi (Nat.not_lt_zero _)
  isplitr; · ipureintro; intro i hi; exact absurd hi (Nat.not_lt_zero _)
  isplitl [Hf]; · iexact Hf
  isplitl [Hg]; · iexact Hg
  iexact H

/-- The invariant gives the scoped buffers back. -/
theorem inv_end (A : (w : Fin cfg0.W) → Buf (Elt F) ((cfg0.win w).arr.view.loc (c.tc : Thread nD τ))) (n : ℕ) :
    Data.inv c A n ⊢ (Pipeline.scopedRest (Ix := Unit) (Name := ℕ) (U := UU) (Lvl := ℕ) (Val := Elt F) spec0 c : sProp 𝕄) := by
  rw [scopedRest0_eq]
  unfold Data.inv others
  iintro ⟨%f, %g, -, -, Hf, Hg, H⟩
  isplitl [Hf]; · iexists f; iexact Hf
  isplitl [Hg]; · iexists g; iexact Hg
  iexact H

/-- The first call's layout. -/
theorem kit0 : PLaunchFacts (nD := nD) (τ := τ) (pcfgs (F := F)) 0 := launch0.toP

/-- The arrays and the other buffers are all the buffers. -/
theorem exit0 (W : Dev nD → Vals F) (A : (w : Fin cfg0.W) → Buf (Elt F) ((cfg0.win w).arr.view.loc (c.tc : Thread nD τ))) (X : Vals F)
    (hA : ∀ w, A w = X (Proc.devRef .tc (arrRef spec0 w))) (hX : ∀ b ∈ ucRefs τ sig \ arrRefs (τ := τ) spec0, X b = W c b) :
    iprop((pd W 0 c).arrays A ∗ StableHlo.held (c.tc : Thread nD τ) (ucRefs τ sig \ arrRefs spec0) (W c))
      ⊢ (StableHlo.held (c.tc : Thread nD τ) (ucRefs τ sig) X : sProp 𝕄) := by
  rw [arrays_held (pcfgs (F := F)) adm (pd W) 0 (kit0 (F := F)) c (share0 c W) A X hA, StableHlo.held_sub_split (c.tc : Thread nD τ) arrs_ucRefs0 X,
    StableHlo.held_congr (c.tc : Thread nD τ) (S := ucRefs τ sig \ arrRefs spec0) hX]
  exact BI.Entails.refl _

theorem cut0 : LevelCut (pcfgs (F := F)) adm () Lv lv 0 (fun _ : Dev nD => (0 : CellTallies nD τ sig Unit)) (fun _ => 0) where
  hι := fun c _ _ => mem_Lv c _
  hιb := fun _ _ _ => le_rfl
  hD := fun _ _ _ h => absurd h (lt_irrefl _)

set_option backward.isDefEq.respectTransparency.types false in
/-- The first call's record, entered at the valuations `W`. -/
def reg0 (W : Dev nD → Vals F) : RDat.RegionSeg (pcfgs (F := F)) adm (rd W) () defs₀ Variants.none Lv lv 0 where
  win := (kit0 (F := F)).to₀.win
  block_pos := (kit0 (F := F)).to₀.block_pos
  stage_whole := (kit0 (F := F)).to₀.stage_whole
  K := PEmpty
  osem k := k.elim
  ho := OwnSemFacts.none _
  hbody c := (obl0 c (arrs0 c (W c))).toRRel
  hwaits c := RDat.cellsWaits_of_cut (Pipeline.pin (pcfgs (F := F)) adm) (rd W) () 0 c 0 0 (fun _ => rfl) ((cut0 (F := F)).hι c) ((cut0 (F := F)).hιb c) ((cut0 (F := F)).hD c)
  pre c := iprop(StableHlo.held (c.tc : Thread nD τ) (ucRefs τ sig) (W c) ∗ beside c)
  post c := iprop(∃ X, StableHlo.held (c.tc : Thread nD τ) (ucRefs τ sig) X ∗ ⌜Left c (W c) X⌝ ∗ beside c)
  X c := iprop(emp)
  Y c := iprop(emp)
  Z c := iprop(StableHlo.held (c.tc : Thread nD τ) (ucRefs τ sig \ arrRefs spec0) (W c) ∗ ∃ r, prngReg c r)
  hentry c := by
    show _ ⊢ |={Set.univ}=> iprop((pd W 0 c).arrays ((pd W 0 c).arrAt · 0) ∗ prefHeld (pcfgs (F := F) 0).pre c (fun _ => fullShare) (adm 0).1
        ∗ (pd W 0 c).owesAt () 0 ∗ _ ∗ _)
    rw [ownSems0_none, prefHeld_of_none _ rfl, arrays_held (pcfgs (F := F)) adm (pd W) 0 (kit0 (F := F)) c (share0 c W) ((pd W 0 c).arrAt · 0) (W c) (fun _ => rfl),
      StableHlo.held_sub_split (c.tc : Thread nD τ) arrs_ucRefs0 (W c)]
    unfold beside
    iintro ⟨⟨⟨Ha, Hr⟩, Hp, HO⟩, -, -⟩
    imodintro
    isplitl [Ha]; · iexact Ha
    isplitr; · iempintro
    isplitl [HO]
    · unfold Dat.owesAt owesWithin Dat.bound
      icases HO with ⟨%Wd, HO⟩; iexists Wd; isplitr; · ipureintro; exact fun _ _ => Or.inl trivial
      iexact HO
    isplitr; · iempintro
    isplitl [Hr]; · iexact Hr
    iexact Hp
  hin c := (show _ ⊢ (Pipeline.scopedRest (Ix := Unit) (Name := ℕ) (U := UU) (Lvl := ℕ) (Val := Elt F) spec0 c : sProp 𝕄) from by
    iintro ⟨-, -, Hr⟩; iexact Hr).trans (inv_start c (arrs0 c (W c)))
  hout c := (inv_end c (arrs0 c (W c)) _).trans (by
    rw [ownSems0_none]
    iintro H
    isplitr; · iempintro
    isplitr; · iempintro
    iexact H)
  hexit c := by
    show iprop((rel0 c (W c)).arraysAt cfg0.N ∗ (pd W 0 c).owesAt () (Fin.last cfg0.N) ∗ _ ∗ _) ⊢ _
    iintro ⟨Ha, HO, -, Hr, Hp⟩
    ihave Ha := (show (rel0 c (W c)).arraysAt cfg0.N ⊢ (iprop(∃ A : (w : Fin cfg0.W) → Buf (Elt F) ((cfg0.win w).arr.view.loc (c.tc : Thread nD τ)),
        ⌜∀ w, (rel0 c (W c)).ArrAt w cfg0.N (A w)⌝ ∗ (pd W 0 c).arrays A) : sProp 𝕄) from by
      unfold RDat.arraysAt Dat.arrays
      refine (BI.bigSep_exists_pi Finset.univ _).trans ?_
      iintro ⟨%A, H⟩
      ihave H' := (BI.bigSep_pure_sep Finset.univ (fun w => (rel0 c (W c)).ArrAt w cfg0.N (A w)) _) $$ H
      icases H' with ⟨%hA, H⟩
      iexists A
      isplitr; · ipureintro; exact fun w => hA w (Finset.mem_univ w)
      iexact H) $$ Ha
    icases Ha with ⟨%A, %hA, Ha⟩
    imodintro
    iexists (put (W c) c A)
    isplitl [Ha Hr]
    · iapply (exit0 c W A (put (W c) c A) (put_arr (W c) c A hA) (put_rest (W c) c A))
      isplitl [Ha]; · iexact Ha
      iexact Hr
    isplitr; · ipureintro; exact put_left (W c) c A hA
    unfold beside
    isplitl [Hp]; · iexact Hp
    unfold Dat.owesAt owesWithin
    icases HO with ⟨%Wd, -, HO⟩; iexists Wd; iexact HO

end Cert.KernelIdeal.Run
-- ==== Proof.KernelIdeal.Launch1.lean ====
module

public import proofs.«01_k».proof.Proof.KernelIdeal.Launch0

@[expose] public section

set_option maxRecDepth 16384

noncomputable section

/-! The second call as an item of the program, at whatever contents the first call left. -/
namespace Cert.KernelIdeal.Run

open Cert.KernelIdeal Cert.KernelIdeal.Gen Cert.KernelIdeal.Data
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- The second call's layout. -/
theorem kit1 : PLaunchFacts (nD := nD) (τ := τ) (pcfgs (F := F)) 1 := launch1.toP

theorem arrs_ucRefs1 : arrRefs (τ := τ) spec1 ⊆ ucRefs τ sig := arrRefs_sub_ucRefs spec1 (by decide)

theorem share1 (W : Dev nD → Vals F) (w : Fin cfg1.W) : (pd W 1 c).share w = fullShare := by
  show (Second.dat1 (U := UU) c (arrs1 c (W c))).share w = fullShare
  unfold Dat.share; split <;> rfl

theorem start1 (A : (w : Fin cfg1.W) → Buf (Elt F) ((cfg1.win w).arr.view.loc (c.tc : Thread nD τ))) :
    iprop((Pipeline.scopedRest (Ix := Unit) (Name := ℕ) (U := UU) (Lvl := ℕ) (Val := Elt F) spec1 c : sProp 𝕄) ∗ emp) ⊢ Second.inv c A 0 := by
  rw [scopedRest1_split]
  unfold Second.inv
  iintro ⟨⟨⟨%f, Hf⟩, H⟩, -⟩
  isplitl [Hf]
  · iexists f
    isplitr; · ipureintro; intro k hk; exact absurd hk (Nat.succ_ne_zero k).symm
    iexact Hf
  iexact H

theorem end1 (A : (w : Fin cfg1.W) → Buf (Elt F) ((cfg1.win w).arr.view.loc (c.tc : Thread nD τ))) (n : ℕ) :
    Second.inv c A n ⊢ iprop((Pipeline.scopedRest (Ix := Unit) (Name := ℕ) (U := UU) (Lvl := ℕ) (Val := Elt F) spec1 c : sProp 𝕄) ∗ emp) := by
  rw [scopedRest1_split]
  unfold Second.inv
  iintro ⟨⟨%f, -, Hf⟩, H⟩
  isplitl [Hf H]
  · isplitl [Hf]; · iexists f; iexact Hf
    iexact H
  iempintro

theorem cut1 : LevelCut (pcfgs (F := F)) adm () Lv lv 1 (fun _ : Dev nD => (0 : CellTallies nD τ sig Unit)) (fun _ => 0) where
  hι := fun c _ _ => mem_Lv c _
  hιb := fun _ _ _ => le_rfl
  hD := fun _ _ _ h => absurd h (lt_irrefl _)

set_option backward.isDefEq.respectTransparency.types false in
/-- The second call's record at the valuation `X`. -/
def reg1 (X : Vals F) : RegionSeg (pcfgs (F := F)) adm (pd fun _ => X) () defs₀ Variants.none Lv lv 1 :=
  RegionSeg.ofHeldIn (pcfgs (F := F)) adm (pd fun _ => X) () defs₀ Variants.none Lv lv 1 (fun _ => 0) (ucRefs τ sig) (fun _ => iprop(emp)) (fun _ => iprop(emp)) kit1 rfl
    (fun c => BodyObligation.loose _ (Second.obl1 c (arrs1 c X))) (fun _ _ => rfl) (fun _ => rfl) (fun c => share1 c (fun _ => X))
    (fun c => start1 c (arrs1 c X)) (fun c => end1 c (arrs1 c X) _) (fun _ => 0) cut1 (fun c => iprop(∃ r, prngReg c r)) (fun _ => X) (fun _ _ => rfl)

/-- What the buffers hold after the second call entered at `X`. -/
def after1 (c : Dev nD) (X : Vals F) : Vals F := afterRegion (pd (fun _ => X) 1 c) X

set_option backward.isDefEq.respectTransparency.types false in
theorem reg1_pre (X : Vals F) (c : Dev nD) :
    iprop(StableHlo.held (c.tc : Thread nD τ) (ucRefs τ sig) X ∗ beside c) ⊢ (reg1 X).pre c := by
  refine BI.Entails.trans ?_ (RegionSeg.ofHeldIn_pre arrs_ucRefs1 c)
  unfold beside
  show (iprop(StableHlo.held (c.tc : Thread nD τ) (ucRefs τ sig) X ∗ (∃ r, prngReg c r) ∗ ∃ Wd, owes (c : Thread nD τ) (0 : CellTallies nD τ sig Unit) Wd) : sProp 𝕄)
    ⊢ iprop(StableHlo.held (c.tc : Thread nD τ) (ucRefs τ sig) X ∗ (∃ Wd, owes (c : Thread nD τ) (0 : CellTallies nD τ sig Unit) Wd) ∗ emp ∗ ∃ r, prngReg c r)
  iintro ⟨Hh, Hp, HO⟩
  isplitl [Hh]; · iexact Hh
  isplitl [HO]; · iexact HO
  isplitr; · iempintro
  iexact Hp

set_option backward.isDefEq.respectTransparency.types false in
theorem reg1_post (X : Vals F) (c : Dev nD) :
    (reg1 X).post c ⊢ iprop(StableHlo.held (c.tc : Thread nD τ) (ucRefs τ sig) (after1 c X) ∗ beside c) := by
  refine (RegionSeg.ofHeldIn_post arrs_ucRefs1 c).trans ?_
  unfold beside after1
  iintro ⟨Hh, HO, -, Hp⟩
  isplitl [Hh]; · iexact Hh
  isplitl [Hp]; · iexact Hp
  iexact HO

end Cert.KernelIdeal.Run
-- ==== Proof.KernelIdeal.Run.lean ====
module

public import proofs.«01_k».proof.Proof.KernelIdeal.Launch1

@[expose] public section

set_option maxRecDepth 16384

noncomputable section

/-! The whole program: its two host stretches around the two calls. -/
namespace Cert.KernelIdeal.Run

open Cert.KernelIdeal Cert.KernelIdeal.Gen Cert.KernelIdeal.Data
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The program has no host loop. -/
abbrev noLoops : Fin 0 → Prog (TpuEff nD τ sig (Elt F) (HostLoop.Sig (Pipeline.Sig Λ₀ (Fin 2) fun p => (pcfgs (F := F) p).Adm) 0) .tc) PUnit := fun l => l.elim0

/-- One ticket for each call. -/
def tk (W : Dev nD → Vals F) : Fin 2 → Ticket (Ix := Unit) (Name := ℕ) (U := UU) (Lvl := ℕ) (nD := nD) (τ := τ) (pcfgs (F := F)) adm
  | ⟨0, h⟩ => { p := 0, pdats := pd W, EP := embAt (⟨0, h⟩ : Fin 2) }
  | ⟨1, h⟩ => { p := 1, pdats := pd W, EP := embAt (⟨1, h⟩ : Fin 2) }
  | ⟨_ + 2, h⟩ => absurd h (Nat.not_lt.2 (Nat.le_add_left _ _))

variable (m : (ℓ : Loc nD τ sig) → Buf (Elt F) ℓ)

/-- What is known of the buffers between the calls. -/
def Mid (X : Vals F) (c : Dev nD) : Prop := Left c (V1 m c) X

/-- The program's items. -/
def segs : List (CSeg (pcfgs (F := F)) adm defs₀ Variants.none Lv lv noLoops (tk (V1 m))) :=
  [ CSeg.ofOps _ _ _ _ _ _ _ _ (ucRefs τ sig) hostOps0
      (fun op h => sub_ucRefs op ((List.forall_iff_forall_mem.mp hostOps0_sub) op h)) (fun op h => (List.forall_iff_forall_mem.mp hostOps0_fresh) op h) (V0 m) beside,
    CSeg.regionAtR _ _ () cellOf_inj _ _ _ _ _ _ (0 : Fin 2) (rd (V1 m)) (reg0 (V1 m)),
    CSeg.regionF _ _ () cellOf_inj _ _ _ _ _ _ (1 : Fin 2) (fun X => pd fun _ => X) reg1 (Mid m),
    CSeg.exSel (Mid m) (fun X => CSeg.ofOps _ _ _ _ _ _ _ _ (ucRefs τ sig) hostOps2
      (fun op h => sub_ucRefs op ((List.forall_iff_forall_mem.mp hostOps2_sub) op h)) (fun op h => (List.forall_iff_forall_mem.mp hostOps2_fresh) op h) (fun c => after1 c X) beside)
      (StableHlo.seq hostOps2) (fun _ => rfl) 0 (fun _ => le_rfl) ∅ (fun _ => rfl) ]

theorem main_chainL (c : Dev nD) : HostLoop.liftProg (L := 0) (main (F := F) c) = Pipeline.chain
    [ StableHlo.seq hostOps0, Prog.lift (.customCall (HostLoop.inner (Pipeline.entry 0)) ()), Prog.lift (.customCall (HostLoop.inner (Pipeline.entry 1)) ()),
      StableHlo.seq hostOps2 ] := by
  rw [main_chain, HostLoop.liftProg_chain]
  simp only [List.map_cons, List.map_nil, HostLoop.liftProg_seq]
  rfl

/-- What the buffers hold at the end, the first call having left `X`. -/
def finalV (c : Dev nD) (X : Vals F) : Vals F := StableHlo.after hostOps2 (after1 c X)

/-- The state at the end. -/
def endState (c : Dev nD) : sProp 𝕄 := iprop(∃ X, ⌜Mid m X c⌝ ∗ StableHlo.held (c.tc : Thread nD τ) (ucRefs τ sig) (finalV c X))

set_option backward.isDefEq.respectTransparency.types false in
theorem chains : CSeg.Chains (fun c => iprop(StableHlo.held (c.tc : Thread nD τ) (ucRefs τ sig) (V0 m c) ∗ beside c)) (segs m)
    (fun c => iprop(endState m c ∗ ∃ W, owes (c.tc : Thread nD τ) (0 : CellTallies nD τ sig Unit) W)) := by
  refine ⟨fun _ => .rfl, fun _ => .rfl, fun c => ?_, fun c => ?_, fun c => ?_⟩
  · show (iprop(∃ X, StableHlo.held (c.tc : Thread nD τ) (ucRefs τ sig) X ∗ ⌜Mid m X c⌝ ∗ beside c) : sProp 𝕄) ⊢ iprop(∃ X, ⌜Mid m X c⌝ ∗ (reg1 X).pre c)
    iintro ⟨%X, Hh, %hX, HE⟩
    iexists X
    isplitr; · ipureintro; exact hX
    iapply (reg1_pre X c)
    isplitl [Hh]; · iexact Hh
    iexact HE
  · refine CSeg.regionF_post c fun X hX => ?_
    refine (reg1_post X c).trans ?_
    exact exSel_intro (sel := fun X => Mid m X c) (A := fun X => iprop(StableHlo.held (c.tc : Thread nD τ) (ucRefs τ sig) (after1 c X) ∗ beside c)) X hX
  · refine CSeg.exSel_post c fun X hX => ?_
    show (iprop(StableHlo.held (c.tc : Thread nD τ) (ucRefs τ sig) (finalV c X) ∗ beside c) : sProp 𝕄) ⊢ _
    unfold endState beside
    iintro ⟨Hh, -, HO⟩
    isplitl [Hh]
    · iexists X
      isplitr; · ipureintro; exact hX
      iexact Hh
    iexact HO

set_option backward.isDefEq.respectTransparency.types false in
theorem segs_disjoint : (segs m).Pairwise fun s s' => Disjoint s.T s'.T := by
  unfold segs
  refine List.pairwise_cons.mpr ⟨fun s _ => Finset.disjoint_empty_left _, List.pairwise_cons.mpr ⟨fun s hs => ?_, List.pairwise_cons.mpr ⟨fun s hs => ?_,
    List.pairwise_singleton ..⟩⟩⟩
  · cases hs with
    | head => exact (by decide : Disjoint ({0} : Finset (Fin 2)) {1})
    | tail _ hs => cases hs with
      | head => exact Finset.disjoint_empty_right _
      | tail _ hs => cases hs
  · cases hs with
    | head => exact Finset.disjoint_empty_right _
    | tail _ hs => cases hs

/-- Both calls' staging cells' ghost state at launch. -/
abbrev seed : Rounds.URounds (GSem nD τ sig) Unit := Rounds.initOf (Pipeline.cells (Pipeline.pin (pcfgs (F := F)) adm) cellOf_inj) (Pipeline.launchToks (Pipeline.pin (pcfgs (F := F)) adm) cellOf_inj)

theorem seed_split (W : Dev nD → Vals F) : (ownU ((fun _ => seed (F := F), 1) : UU) : sProp 𝕄)
    ⊢ |={Set.univ}=> iprop((bigSep Finset.univ fun j => BI.own ((tk W j).EP (seed (F := F)))) ∗ bigSep Finset.univ fun _ : Dev nD => iprop(emp)) := by
  iintro Hu
  ihave H := (ownU_pair _ _) $$ Hu
  icases H with ⟨Hl, -⟩
  ihave H := (own_iprod (fun _ : Fin 2 => seed (F := F))) $$ Hl
  imodintro
  isplitl [H]
  · iapply (show (bigSep Finset.univ fun j : Fin 2 => BI.own (embAt (nD := nD) (τ := τ) (sig := sig) (Ix := Unit) (Val := Elt F) (Name := ℕ) (Lvl := ℕ) (B := Counters) j (seed (F := F))))
      ⊢ (bigSep Finset.univ fun j => BI.own ((tk W j).EP (seed (F := F))) : sProp 𝕄) from
      bigSep_mono fun j _ => by fin_cases j <;> exact BI.Entails.refl _)
    iexact H
  have e : (bigSep Finset.univ fun _ : Dev nD => (iprop(emp) : sProp 𝕄)) = iprop(emp) := bigSep_emp_const _
  rw [e]; iempintro

/-- What the launch hands out makes the state before the first item. -/
theorem launch_start (g : Dev nD → PrngReg) : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (g c) ∗ iprop(emp)))
    ⊢ (bigSep Finset.univ fun c : Dev nD => iprop(StableHlo.held (c.tc : Thread nD τ) (ucRefs τ sig) (V0 m c) ∗ beside c) : sProp 𝕄) := by
  refine bigSep_mono fun c _ => ?_
  unfold beside
  rw [← Pipeline.unscopedBufs_held (Ix := Unit) (Name := ℕ) (U := UU) (Lvl := ℕ) c (V0 m c)]
  show (iprop(unscopedBufs c (fun b => m ((c.tc : Thread nD τ).loc b)) ∗ unscopedSems0 c ∗ owes (c.tc : Thread nD τ) (0 : CellTallies nD τ sig Unit) ∅
      ∗ Pipeline.launchCred (fun _ => 0) c ∗ prngReg c (g c) ∗ iprop(emp)) : sProp 𝕄)
    ⊢ iprop(unscopedBufs c (fun b => m ((c.tc : Thread nD τ).loc b)) ∗ (∃ r, prngReg c r) ∗ ∃ Wd, owes (c : Thread nD τ) (0 : CellTallies nD τ sig Unit) Wd)
  iintro ⟨Hb, -, HO, -, Hp, -⟩
  isplitl [Hb]; · iexact Hb
  isplitl [Hp]; · iexists _; iexact Hp
  iexists _; iexact HO

set_option backward.isDefEq.respectTransparency.types false in
/-- The program lifted over no loops, run from any memory: it ends with every counter at zero and every buffer as `finalV` has it. -/
theorem run_lifted (g : Dev nD → PrngReg) :
    θ_run (HostLoop.defs noLoops (Pipeline.defs (pcfgs (F := F)) defs₀)) (onTc (τ := τ) fun c => HostLoop.liftProg (L := 0) (main (F := F) c)) ⟨m, fun _ => 0, g⟩
      (fun r => (∀ c : Dev nD, ∃ X, Mid m X c ∧ ∀ b ∈ ucRefs τ sig, r.2.mem ((c : Thread nD τ).1, b) = finalV c X b) ∧ r.2.sem = fun _ => 0) := by
  refine Pipeline.θ_run_regions_loop_kit_sems (pcfgs (F := F)) adm cellOf_inj defs₀ Variants.none Lv lv noLoops (tk (V1 m)) m g _ (segs m)
    (fun c Q => by rw [main_chainL]; exact .rfl) (segs_disjoint m) (O₀ := fun _ => 0) (hL := ?_) (G := fun _ => iprop(emp))
    (u₀ := (fun _ => seed (F := F), 1)) (hu₀ := seed_split (V1 m))
    (T₀ := fun c => iprop(StableHlo.held (c.tc : Thread nD τ) (ucRefs τ sig) (V0 m c) ∗ beside c)) (Tₙ := endState m)
    (hch := chains m) (hinit := ?_)
    (QY := fun c s => ∃ X, Mid m X c ∧ ∀ b ∈ ucRefs τ sig, s.mem ((c : Thread nD τ).1, b) = finalV c X b)
    (hfin := fun c s' => ?_) (hQ := fun _ h hz => ⟨h, funext fun g => hz g (.inr (regions_no_unscoped g.2))⟩)
  · exact fun g h => if_neg h
  · iintro ⟨H, -⟩
    imodintro
    iapply (launch_start m g)
    iexact H
  · unfold endState StableHlo.held
    iintro ⟨⟨%X, %hX, Hh⟩, HSI⟩
    ihave Hr := (pointsTo_read_all (Pipeline.ucRefs τ sig) (fun b => ((c : Thread nD τ).1, b)) (finalV c X) s') $$ [Hh HSI]
    · isplitl [Hh] <;> iassumption
    icases Hr with ⟨%h, HSI⟩
    imodintro
    isplitr
    · ipureintro; exact ⟨X, hX, h⟩
    iexact HSI

/-- The same of the program itself. -/
theorem run (g : Dev nD → PrngReg) : θ_run defs (onTc (τ := τ) (main (F := F))) ⟨m, fun _ => 0, g⟩
    (fun r => (∀ c : Dev nD, ∃ X, Mid m X c ∧ ∀ b ∈ ucRefs τ sig, r.2.mem ((c : Thread nD τ).1, b) = finalV c X b) ∧ r.2.sem = fun _ => 0) :=
  HostLoop.θ_run_of_lift noLoops _ main _ _ (run_lifted m g)

end Cert.KernelIdeal.Run
-- ==== Proof.KernelIdeal.Kept.lean ====
module

public import proofs.«01_k».proof.Proof.KernelIdeal.Run

@[expose] public section

set_option maxRecDepth 16384

noncomputable section

/-! What the program leaves alone: every argument. -/
namespace Cert.KernelIdeal.Run

open Cert.KernelIdeal Cert.KernelIdeal.Gen Cert.KernelIdeal.Data
open Idealize.ShloMosaic Idealize.ShloMosaic.TcCoe Idealize.ShloMosaic.Pipeline
open Idealize.SL.Sem

variable {F : FTy → Type} [FloatOps F] [Named F]
variable (m : (ℓ : Loc nD τ sig) → Buf (Elt F) ℓ)

/-- A buffer that neither the last host stretch nor the second call writes ends as the first call left it. -/
theorem final_keeps (c : Dev nD) (X : Vals F) (r : Ref sig .tc) (h2 : r ∉ hostOps2_W) (h1 : ∀ w, arrRef spec1 w = r → (cfg1.win w).isOut = false) :
    finalV c X (Proc.devRef .tc r) = X (Proc.devRef .tc r) :=
  (StableHlo.after_of_writes_sub hostOps2 _ hostOps2_writes h2).trans
    (afterRegion_keeps (Second.dat1 (U := UU) c (arrs1 c X)) X launch1.win.arr_inj (fun _ => rfl) r h1)

/-- A buffer that nothing writes ends as it began. -/
theorem final_arg (c : Dev nD) (X : Vals F) (hX : Mid m X c) (r : Ref sig .tc) (h2 : r ∉ hostOps2_W) (h1 : ∀ w, arrRef spec1 w = r → (cfg1.win w).isOut = false)
    (h0 : (Proc.devRef (τ := τ) .tc r) ∉ outs0.map (Proc.devRef (τ := τ) .tc)) (h : r ∉ hostOps0_W) :
    finalV c X (Proc.devRef .tc r) = m ((c : Thread nD τ).loc r) :=
  (final_keeps c X r h2 h1).trans ((hX.1 _ h0).trans ((V1_of m c r h).trans rfl))

theorem mem_uc (r : Ref sig .tc) (h : (Proc.devRef (τ := τ) .tc r).isScoped = false) : Proc.devRef .tc r ∈ ucRefs τ sig :=
  Finset.mem_filter.mpr ⟨StableHlo.devRef_mem_tcRefs r, by rw [h]; decide⟩

/-- So reads an argument at the end. -/
theorem read_arg (c : Dev nD) (X : Vals F) (hX : Mid m X c) (s : MemSt nD τ sig (Elt F)) (hs : ∀ b ∈ ucRefs τ sig, s.mem ((c : Thread nD τ).1, b) = finalV c X b)
    (r : Ref sig .tc) (hu : (Proc.devRef (τ := τ) .tc r).isScoped = false) (h2 : r ∉ hostOps2_W) (h1 : ∀ w, arrRef spec1 w = r → (cfg1.win w).isOut = false)
    (h0 : (Proc.devRef (τ := τ) .tc r) ∉ outs0.map (Proc.devRef (τ := τ) .tc)) (h : r ∉ hostOps0_W) :
    s.mem ((c.tc : Thread nD τ).loc r) = m ((c.tc : Thread nD τ).loc r) :=
  (hs _ (mem_uc r hu)).trans (final_arg m c X hX r h2 h1 h0 h)

/-- Every argument ends as it began. -/
def Kept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)

theorem kept (c : Dev nD) (X : Vals F) (hX : Mid m X c) (s : MemSt nD τ sig (Elt F)) (hs : ∀ b ∈ ucRefs τ sig, s.mem ((c : Thread nD τ).1, b) = finalV c X b) : Kept m s c :=
  ⟨read_arg m c X hX s hs main_arg0 (by decide) (by decide) (by decide) (by decide) (by decide),
    read_arg m c X hX s hs main_arg1 (by decide) (by decide) (by decide) (by decide) (by decide),
    read_arg m c X hX s hs main_arg2 (by decide) (by decide) (by decide) (by decide) (by decide),
    read_arg m c X hX s hs main_arg3 (by decide) (by decide) (by decide) (by decide) (by decide),
    read_arg m c X hX s hs main_arg4 (by decide) (by decide) (by decide) (by decide) (by decide),
    read_arg m c X hX s hs main_arg5 (by decide) (by decide) (by decide) (by decide) (by decide),
    read_arg m c X hX s hs main_arg6 (by decide) (by decide) (by decide) (by decide) (by decide),
    read_arg m c X hX s hs main_arg7 (by decide) (by decide) (by decide) (by decide) (by decide),
    read_arg m c X hX s hs main_arg8 (by decide) (by decide) (by decide) (by decide) (by decide),
    read_arg m c X hX s hs main_arg9 (by decide) (by decide) (by decide) (by decide) (by decide),
    read_arg m c X hX s hs main_arg10 (by decide) (by decide) (by decide) (by decide) (by decide),
    read_arg m c X hX s hs main_arg11 (by decide) (by decide) (by decide) (by decide) (by decide),
    read_arg m c X hX s hs main_arg12 (by decide) (by decide) (by decide) (by decide) (by decide),
    read_arg m c X hX s hs main_arg13 (by decide) (by decide) (by decide) (by decide) (by decide),
    read_arg m c X hX s hs main_arg14 (by decide) (by decide) (by decide) (by decide) (by decide)⟩

/-- The frame: the program ends, the arguments are as they were, and every counter is at zero. -/
theorem run_frame (g : Dev nD → PrngReg) : θ_run defs (onTc (τ := τ) (main (F := F))) ⟨m, fun _ => 0, g⟩ (fun r => (∀ c : Dev nD, Kept m r.2 c) ∧ r.2.sem = fun _ => 0) :=
  (θ_run defs _ _).mono (fun r h => ⟨fun c => by obtain ⟨X, hX, hs⟩ := h.1 c; exact kept m c X hX r.2 hs, h.2⟩) (run m g)

end Cert.KernelIdeal.Run
-- ==== Proof.RefKept.lean ====
module

public import proofs.«01_k».proof.Defs
public import proofs.«01_k».proof.Proof.Gen.ReferenceIdeal.Run

@[expose] public section

noncomputable section

/-! The reference ends with its arguments as they were; it has no semaphores, so its counters are all at zero. -/
namespace Cert.RefRun

open Cert.ReferenceIdeal Cert.ReferenceIdeal.Gen
open Idealize.ShloMosaic Idealize.ShloMosaic.TcCoe Idealize.SL.Sem

theorem no_counters {α : Type} (f g : GSem nD τ sig → α) : f = g := by
  funext ⟨_, s⟩
  cases s with
  | reg s => exact Fin.elim0 s
  | dma s => exact Fin.elim0 s

theorem kept : Cert.quiescent_ReferenceIdeal := fun m g _ =>
  (θ_run defs _ _).mono (fun r h => ⟨fun c => (h c).2.2.2.2, no_counters _ _⟩) (Cert.ReferenceIdeal.Value.run m g)

end Cert.RefRun
-- ==== Proof.Value.Spec.lean ====
module

public import Idealize.ShloMosaic.Lib.Pointwise

@[expose] public section

set_option maxRecDepth 16384

noncomputable section

/-! The problem's mathematics, on coordinates: what one graph's rows, cluster assignment, discriminator scores and losses are. -/
namespace Cert.Value

open Idealize.ShloMosaic

/-- The arguments, by coordinates. -/
structure Args where
  X : Fin 2 → Fin 4096 → Fin 512 → EReal
  Y : Fin 2 → Fin 4096 → Fin 512 → EReal
  G : Fin 2 → Fin 4096 → Fin 4096 → EReal
  A : Fin 4096 → Fin 4096 → EReal
  s1 : Fin 4096 → EReal
  s2 : Fin 4096 → EReal
  W : Fin 2 → Fin 512 → Fin 128 → EReal
  b : Fin 2 → Fin 128 → EReal
  Z : Fin 2 → Fin 32 → Fin 128 → EReal
  U : Fin 4096 → Fin 128 → EReal
  D : Fin 128 → Fin 128 → EReal

/-- A linear layer. -/
def lin (x : Fin 4096 → Fin 512 → EReal) (w : Fin 512 → Fin 128 → EReal) (b : Fin 128 → EReal) (n : Fin 4096) (k : Fin 128) : EReal :=
  (∑ i, x n i * w i k) + b k

/-- The aggregation over the graph, and the rectifier. -/
def agg (a : Fin 4096 → Fin 4096 → EReal) (h : Fin 4096 → Fin 128 → EReal) (n : Fin 4096) (k : Fin 128) : EReal :=
  max (∑ i, a n i * h i k) 0

/-- A row's similarity to a cluster, scaled. -/
def score (u : Fin 4096 → Fin 128 → EReal) (z : Fin 32 → Fin 128 → EReal) (n : Fin 4096) (j : Fin 32) : EReal :=
  (∑ k, u n k * z j k) * (((Real.sqrt 128)⁻¹ : ℝ) : EReal)

/-- The largest of a row's scores. -/
def top (v : Fin 32 → EReal) : EReal := Finset.univ.fold max ⊥ v

/-- The softmax of a row. -/
def soft (v : Fin 32 → EReal) (j : Fin 32) : EReal := Ideal.div (Ideal.exp (v j - top v)) (∑ l, Ideal.exp (v l - top v))

/-- softplus. -/
def sp (y : EReal) : EReal := max y 0 + Ideal.log1p (Ideal.exp (-(max y (-y))))

namespace Args

variable (a : Args)

def u (g : Fin 2) : Fin 4096 → Fin 128 → EReal := agg (a.G g) (lin (a.X g) (a.W g) (a.b g))
def v (g : Fin 2) : Fin 4096 → Fin 128 → EReal := agg (a.G g) (lin (a.Y g) (a.W g) (a.b g))
/-- The cluster assignment. -/
def H (g : Fin 2) (n : Fin 4096) (j : Fin 32) : EReal := soft (score (a.u g) (a.Z g) n) j
/-- The summary through the discriminator's weight. -/
def proj (g : Fin 2) (n : Fin 4096) (k : Fin 128) : EReal := ∑ i, (∑ j, a.H g n j * a.Z g j i) * a.D i k
/-- The two logits of a row. -/
def l1 (g : Fin 2) (n : Fin 4096) : EReal := (∑ k, a.proj g n k * a.u g n k) + a.s1 n
def l2 (g : Fin 2) (n : Fin 4096) : EReal := (∑ k, a.proj g n k * a.v g n k) + a.s2 n
/-- The two logits side by side. -/
def logit (g : Fin 2) (n : Fin 8192) : EReal := if h : n.val < 4096 then a.l1 g ⟨n.val, h⟩ else a.l2 g ⟨n.val - 4096, by omega⟩
/-- The sum of squares of a row's assignment, and minus its log-sigmoid. -/
def q (g : Fin 2) (n : Fin 4096) : EReal := ∑ j, a.H g n j * a.H g n j
def sq (g : Fin 2) (n : Fin 4096) : EReal := sp (-(a.q g n))
/-- One graph's mean of minus the log-sigmoid. -/
def om (g : Fin 2) : EReal := -(Ideal.div (∑ n, -(a.sq g n)) ((4096 : ℝ) : EReal))
/-- The square of the consensus embedding's distance to the mean of the graphs'. -/
def dist (n : Fin 4096) (k : Fin 128) : EReal :=
  (a.U n k - (a.u 0 n k + a.u 1 n k) * ((1 / 2 : ℝ) : EReal)) * (a.U n k - (a.u 0 n k + a.u 1 n k) * ((1 / 2 : ℝ) : EReal))
def reg : EReal := ∑ n, ∑ k, a.dist n k
/-- The Laplacian. -/
def lap (n m : Fin 4096) : EReal := (if n = m then ∑ i, a.A n i else 0) - a.A n m
/-- One graph's trace. -/
def tr (g : Fin 2) : EReal := ∑ j, ∑ m, (∑ n, a.H g n j * a.lap n m) * a.H g m j

end Args

end Cert.Value
-- ==== Proof.Value.Consts.lean ====
module

public import Idealize.ShloMosaic.Lib.Pointwise
public import Idealize.ShloMosaic.PureOps.Ideal

@[expose] public section

/-! The float constants of the two programs, read over the reals. -/
namespace Cert.Value

open Idealize.ShloMosaic

theorem ofBits_bot : Ideal.ofBits .f32 0xFF800000#32 = ⊥ := by
  simp [Ideal.ofBits, Ideal.ieee, -EReal.coe_mul]

theorem ofBits_top : Ideal.ofBits .f32 0x7F800000#32 = ⊤ := by
  simp [Ideal.ofBits, Ideal.ieee, -EReal.coe_mul]

theorem ofBits_128 : Ideal.ofBits .f32 0x43000000#32 = ((128 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- Division by the root of 128 is the product with its inverse. -/
theorem div_sqrt_128 (x : EReal) : Ideal.div x (Ideal.sqrt ((128 : ℝ) : EReal)) = x * (((Real.sqrt 128)⁻¹ : ℝ) : EReal) := by
  rw [Ideal.sqrt_coe, if_neg (by norm_num), Ideal.div_coe (Real.sqrt_pos.mpr (by norm_num)).ne', one_div]

/-- Division by two is the product with one half. -/
theorem div_two (x : EReal) : Ideal.div x ((2 : ℝ) : EReal) = x * ((1 / 2 : ℝ) : EReal) := Ideal.div_coe (by norm_num) x

/-- Two indices' words are equal exactly where the indices are. -/
theorem select_eq_ofNat {α : Type} {N : ℕ} {i j : Fin N} (hN : N ≤ 4096 := by omega) (a b : α) :
    Scalar.select (IntOp.cmpi .eq (BitVec.ofNat 32 i.val) (BitVec.ofNat 32 j.val)) a b = if i = j then a else b := by
  have e : (BitVec.ofNat 32 i.val == BitVec.ofNat 32 j.val) = decide (i = j) := by
    rw [Bool.eq_iff_iff, beq_iff_eq, decide_eq_true_iff]
    refine ⟨fun h => Fin.ext ?_, fun h => by rw [h]⟩
    have h' := congrArg BitVec.toNat h
    simp only [BitVec.toNat_ofNat] at h'
    have := i.isLt
    have := j.isLt
    omega
  unfold Scalar.select IntOp.cmpi
  simp only [e]
  by_cases h : i = j <;> simp [h]

theorem select_eq_ofNat' {α : Type} {N : ℕ} {i j : Fin N} (hN : N ≤ 4096 := by omega) (a b : α) :
    Scalar.select (IntOp.cmpi .eq (IntOp.addi (BitVec.ofNat 32 i.val) 0#32) (BitVec.ofNat 32 j.val)) a b = if i = j then a else b := by
  have e : IntOp.addi (BitVec.ofNat 32 i.val) 0#32 = BitVec.ofNat 32 i.val := by simp [IntOp.addi]
  rw [e, select_eq_ofNat hN]

end Cert.Value
-- ==== Proof.Value.KerBlocks.lean ====
module

public import proofs.«01_k».proof.Proof.KernelIdeal.Launch0
public import proofs.«01_k».proof.Proof.Value.Spec
public import proofs.«01_k».proof.Proof.Value.Consts

@[expose] public section

set_option maxRecDepth 16384

noncomputable section

/-! The blocks the first call's points read, as elements of its arrays. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (c : Dev nD) (V : Vals Ideal)

/-- The point of pass `p` and block `n`, the graph of pass `p + 1` being `p`. -/
abbrev first (g : Fin 2) (n : Fin 8) : Fin cfg0.N := pt (g.val * 8 + n.val)
abbrev second (g : Fin 2) (n : Fin 8) : Fin cfg0.N := pt (8 + (g.val * 8 + n.val))

/-- A block's row in the whole. -/
abbrev row (n : Fin 8) (r : Fin 512) : Fin 4096 := ⟨n.val * 512 + r.val, by omega⟩

theorem index_x : ∀ (g : Fin 2) (n : Fin 8), win0_0.index (first g n) = ![g.val, 0, n.val, 0] := by decide +kernel
theorem index_y : ∀ (g : Fin 2) (n : Fin 8), win0_1.index (first g n) = ![g.val, 0, n.val, 0] := by decide +kernel
theorem index_w : ∀ (g : Fin 2) (n : Fin 8), win0_3.index (first g n) = ![g.val, 0, 0] := by decide +kernel
theorem index_b : ∀ (g : Fin 2) (n : Fin 8), win0_4.index (first g n) = ![g.val, 0, 0] := by decide +kernel
theorem index_a : ∀ (g : Fin 2) (n : Fin 8), win0_2.index (second g n) = ![g.val, 0, n.val, 0] := by decide +kernel
theorem index_z : ∀ (g : Fin 2) (n : Fin 8), win0_5.index (second g n) = ![g.val, 0, 0, 0] := by decide +kernel
theorem index_d : ∀ (g : Fin 2) (n : Fin 8), win0_6.index (second g n) = ![0, 0] := by decide +kernel
theorem index_s : ∀ (g : Fin 2) (n : Fin 8), win0_7.index (second g n) = ![0, n.val, 0] := by decide +kernel
theorem index_u : ∀ (n : Fin 8), win0_8.index (second 1 n) = ![0, n.val, 0] := by decide +kernel

variable (g : Fin 2) (n : Fin 8)

theorem x_read (r : Fin 512) (k : Fin 512) : iblk c (arrs0 c V) 0 (first g n) (ix4 0 0 r k) = V (Proc.tc.devRef main_arg0) (ix4 g 0 (row n r) k) := by
  blk_ext [iblk, index_x]
theorem y_read (r : Fin 512) (k : Fin 512) : iblk c (arrs0 c V) 1 (first g n) (ix4 0 0 r k) = V (Proc.tc.devRef main_arg2) (ix4 g 0 (row n r) k) := by
  blk_ext [iblk, index_y]
theorem w_read (i : Fin 512) (k : Fin 128) : iblk c (arrs0 c V) 3 (first g n) (ix3 0 i k) = V (Proc.tc.devRef main_arg10) (ix3 g i k) := by
  blk_ext [iblk, index_w]
theorem b_read (k : Fin 128) : iblk c (arrs0 c V) 4 (first g n) (ix3 0 0 k) = V (Proc.tc.devRef main_call0_v6) (ix3 g 0 k) := by
  blk_ext [iblk, index_b]
theorem a_read (r : Fin 512) (k : Fin 4096) : iblk c (arrs0 c V) 2 (second g n) (ix4 0 0 r k) = V (Proc.tc.devRef main_arg1) (ix4 g 0 (row n r) k) := by
  blk_ext [iblk, index_a]
theorem z_read (j : Fin 32) (k : Fin 128) : iblk c (arrs0 c V) 5 (second g n) (ix4 0 0 j k) = V (Proc.tc.devRef main_arg12) (ix4 g 0 j k) := by
  blk_ext [iblk, index_z]
theorem d_read (i k : Fin 128) : iblk c (arrs0 c V) 6 (second g n) (ix2 i k) = V (Proc.tc.devRef main_arg14) (ix2 i k) := by
  blk_ext [iblk, index_d]
theorem s_read (r : Fin 512) (k : Fin 2) : iblk c (arrs0 c V) 7 (second g n) (ix3 0 r k) = V (Proc.tc.devRef main_call0_v5) (ix3 0 (row n r) k) := by
  blk_ext [iblk, index_s]
theorem u_read (r : Fin 512) (k : Fin 128) : iblk c (arrs0 c V) 8 (second 1 n) (ix3 0 r k) = V (Proc.tc.devRef main_arg13) (ix3 0 (row n r) k) := by
  blk_ext [iblk, index_u]

end Cert.Value.Ker
-- ==== Proof.Value.KerPays.lean ====
module

public import proofs.«01_k».proof.Proof.Gen.KernelIdeal.Skeleton
public import proofs.«01_k».proof.Proof.Value.Spec
public import proofs.«01_k».proof.Proof.Value.Consts
public import Idealize.ShloMosaic.PureOps.IdealRules

@[expose] public section

set_option maxRecDepth 16384

noncomputable section

/-! What the kernel's values are at an index, of blocks given by their coordinates. -/
namespace Cert.Value.Ker

open Cert.KernelIdeal Cert.KernelIdeal.Gen
open Idealize.ShloMosaic Idealize.ShloMosaic.TcCoe Idealize.SL.Sem

/-- The kernel's scale is the inverse root of 128. -/
theorem named_s : Named.named (F := Ideal) Cert.KernelIdeal.κ "s" (φ := .f32) 0x3DB504F3#32 = (((Real.sqrt 128)⁻¹ : ℝ) : EReal) :=
  IdealRules.named_const.ideal_named_scalar _ _ _ _ rfl

/-- A block of the linear layer, both inputs side by side. -/
theorem pay1_apply (w : Vec Ideal S1x512x128 .f32) (b : Vec Ideal S1x1x128 .f32) (x y : Vec Ideal S1x1x512x512 .f32) (r : Fin 512) (k : Fin 256) :
    k0_pay1 w b x y (ix3 0 r k) = if h : k.val < 128 then ∑ i, x (ix4 0 0 r i) * w (ix3 0 i ⟨k.val, h⟩) + b (ix3 0 0 ⟨k.val, h⟩)
      else ∑ i, y (ix4 0 0 r i) * w (ix3 0 i ⟨k.val - 128, by omega⟩) + b (ix3 0 0 ⟨k.val - 128, by omega⟩) := by
  pointwise [k0_pay1]

variable (a : Vec Ideal S1x1x512x4096 .f32) (h : Vec Ideal S1x4096x256 .f32) (z : Vec Ideal S1x1x32x128 .f32)

/-- The aggregated rows of both inputs side by side. -/
theorem pay6_apply (r : Fin 512) (k : Fin 256) : k0_pay6 a h (ix2 r k) = max (∑ m, a (ix4 0 0 r m) * h (ix3 0 m k)) 0 := by
  pointwise [k0_pay6]

theorem pay7_apply (r : Fin 512) (k : Fin 128) : k0_pay7 a h (ix2 r k) = k0_pay6 a h (ix2 r ⟨k.val, by omega⟩) := by
  pointwise [k0_pay7]

/-- A row of scores. -/
def sc (r : Fin 512) (j : Fin 32) : EReal := (∑ k, k0_pay7 a h (ix2 r k) * z (ix4 0 0 j k)) * (((Real.sqrt 128)⁻¹ : ℝ) : EReal)

theorem pay9_apply (r : Fin 512) (j : Fin 32) : k0_pay9 a h z (ix2 r j) = soft (sc a h z r) j := by
  pointwise [k0_pay9, k0_pay8, ofBits_bot, named_s, soft, top, sc]

theorem pay10_apply (d : Vec Ideal S128x128 .f32) (r : Fin 512) (k : Fin 2) : k0_pay10 a h z d (ix2 r k) =
    if k.val < 1 then ∑ x, (∑ i, (∑ j, k0_pay9 a h z (ix2 r j) * z (ix4 0 0 j i)) * d (ix2 i x)) * k0_pay7 a h (ix2 r x)
    else ∑ x : Fin 128, (∑ i, (∑ j, k0_pay9 a h z (ix2 r j) * z (ix4 0 0 j i)) * d (ix2 i x)) * k0_pay6 a h (ix2 r ⟨128 + x.val, by omega⟩) := by
  pointwise [k0_pay10, k0_pay8]
  split <;> rfl

theorem pay11_apply (s : FVec Ideal S512x2 .f32) (t : Vec Ideal S1x512x2 .f32) (r : Fin 512) (k : Fin 2) :
    k0_pay11 s t (ix3 0 r k) = s (ix2 r k) + t (ix3 0 r k) := by
  pointwise [k0_pay11]

theorem pay12_apply (s : FVec Ideal S512x32 .f32) (r : Fin 512) (j : Fin 32) : k0_pay12 s (ix3 0 r j) = s (ix2 r j) := by
  pointwise [k0_pay12]

theorem pay3_apply (s : FVec Ideal S512x128 .f32) (r : Fin 512) (j : Fin 128) : k0_pay3 s (ix2 r j) = s (ix2 r j) := by
  pointwise [k0_pay3]

theorem pay13_apply (s : FVec Ideal S512x32 .f32) : k0_pay13 s =
    Ideal.div (-∑ r, -sp (-∑ j, s (ix2 r j) * s (ix2 r j))) ((4096 : ℝ) : EReal) := by
  pointwise [k0_pay13, ofBits_4096, sp]
  simp only [ne_eq, not_true_eq_false, if_false, Fin.sum_univ_one, zero_sub]
  rfl

theorem pay2_apply (a b : EReal) : k0_pay2 (F := Ideal) a b = b + a := by
  pointwise [k0_pay2]

theorem pay4_apply (u : FVec Ideal S512x128 .f32) (v : Vec Ideal S512x128 .f32) (U : Vec Ideal S1x512x128 .f32) : k0_pay4 u v U =
    ∑ r, ∑ k, (U (ix3 0 r k) - (v (ix2 r k) + u (ix2 r k)) * ((1 / 2 : ℝ) : EReal)) * (U (ix3 0 r k) - (v (ix2 r k) + u (ix2 r k)) * ((1 / 2 : ℝ) : EReal)) := by
  pointwise [k0_pay4, ofBits_half]

theorem pay5_apply (u : FVec Ideal S512x128 .f32) (v : Vec Ideal S512x128 .f32) (U : Vec Ideal S1x512x128 .f32) (s : EReal) : k0_pay5 (F := Ideal) u v U s =
    s + k0_pay4 u v U := by
  pointwise [k0_pay5, k0_pay4]

end Cert.Value.Ker
-- ==== Proof.Value.KerRows.lean ====
module

public import proofs.«01_k».proof.Proof.Value.KerBlocks
public import proofs.«01_k».proof.Proof.Value.KerPays

@[expose] public section

set_option maxRecDepth 16384

noncomputable section

/-! What the first call's points compute, in terms of the problem's mathematics. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (c : Dev nD) (V : Vals Ideal)

/-- The kernel's arguments, by coordinates. -/
def args : Args where
  X g n k := V (Proc.tc.devRef main_arg0) (ix4 g 0 n k)
  Y g n k := V (Proc.tc.devRef main_arg2) (ix4 g 0 n k)
  G g n k := V (Proc.tc.devRef main_arg1) (ix4 g 0 n k)
  A n k := V (Proc.tc.devRef main_arg3) (ix3 0 n k)
  s1 n := V (Proc.tc.devRef main_arg8) (ix2 0 n)
  s2 n := V (Proc.tc.devRef main_arg9) (ix2 0 n)
  W g i k := V (Proc.tc.devRef main_arg10) (ix3 g i k)
  b g k := V (Proc.tc.devRef main_arg11) (ix2 g k)
  Z g j k := V (Proc.tc.devRef main_arg12) (ix4 g 0 j k)
  U n k := V (Proc.tc.devRef main_arg13) (ix3 0 n k)
  D i k := V (Proc.tc.devRef main_arg14) (ix2 i k)

/-- What the host hands the first call besides the arguments: the bias as it is, the two offsets side by side. -/
structure Handed : Prop where
  bias : ∀ (g : Fin 2) (k : Fin 128), V (Proc.tc.devRef main_call0_v6) (ix3 g 0 k) = V (Proc.tc.devRef main_arg11) (ix2 g k)
  off : ∀ (n : Fin 4096) (k : Fin 2), V (Proc.tc.devRef main_call0_v5) (ix3 0 n k) =
    if k.val < 1 then V (Proc.tc.devRef main_arg8) (ix2 0 n) else V (Proc.tc.devRef main_arg9) (ix2 0 n)

variable {V}

theorem row_div (n : Fin 8) (r : Fin 512) : (row n r).val / 512 = n.val := by show (n.val * 512 + r.val) / 512 = n.val; omega
theorem row_mod (n : Fin 8) (r : Fin 512) : (row n r).val % 512 = r.val := by show (n.val * 512 + r.val) % 512 = r.val; omega

/-- Every row is some block's. -/
theorem exists_row (m : Fin 4096) : ∃ n r, m = row n r :=
  ⟨⟨m.val / 512, by omega⟩, ⟨m.val % 512, by omega⟩, Fin.ext (by show m.val = m.val / 512 * 512 + m.val % 512; omega)⟩

/-- The first scratch: the linear layer of both inputs side by side. -/
theorem hcatV_apply (hV : Handed V) (g : Fin 2) (m : Fin 4096) (k : Fin 256) : hcatV c (arrs0 c V) (ix3 g m k) =
    if h : k.val < 128 then lin ((args V).X g) ((args V).W g) ((args V).b g) m ⟨k.val, h⟩
      else lin ((args V).Y g) ((args V).W g) ((args V).b g) m ⟨k.val - 128, by omega⟩ := by
  obtain ⟨n, r, rfl⟩ := exists_row m
  have e : hcatV c (arrs0 c V) (ix3 g (row n r) k) = hblk c (arrs0 c V) (first g n) (ix3 0 r k) := by
    show hblk c (arrs0 c V) (pt (g.val * 8 + (row n r).val / 512)) (ix3 0 ⟨(row n r).val % 512, _⟩ k) = _
    have e1 := row_div n r
    have e2 : (⟨(row n r).val % 512, Nat.mod_lt _ (by decide)⟩ : Fin 512) = r := Fin.ext (row_mod n r)
    rw [e1, e2]
  rw [e]
  unfold hblk
  rw [pay1_apply]
  simp only [x_read, y_read, w_read, b_read, hV.bias]
  rfl

/-- The plane a point of the second half reads. -/
theorem slab_apply (hV : Handed V) (g : Fin 2) (n : Fin 8) (m : Fin 4096) (k : Fin 256) : slabAt c (arrs0 c V) (second g n) (ix3 0 m k) =
    if h : k.val < 128 then lin ((args V).X g) ((args V).W g) ((args V).b g) m ⟨k.val, h⟩
      else lin ((args V).Y g) ((args V).W g) ((args V).b g) m ⟨k.val - 128, by omega⟩ := by
  rw [← hcatV_apply c hV g m k]
  unfold slabAt
  have e : ((second g n).val / 8 - 1) % 2 = g.val := by
    show ((8 + (g.val * 8 + n.val)) % 24 / 8 - 1) % 2 = g.val; omega
  have e2 : (⟨((second g n).val / 8 - 1) % 2, Nat.mod_lt _ (by decide)⟩ : Fin 2) = g := Fin.ext e
  rw [e2]
  rfl

theorem rows_apply (hV : Handed V) (g : Fin 2) (n : Fin 8) (r : Fin 512) (k : Fin 256) :
    k0_pay6 (iblk c (arrs0 c V) 2 (second g n)) (slabAt c (arrs0 c V) (second g n)) (ix2 r k) =
    if h : k.val < 128 then (args V).u g (row n r) ⟨k.val, h⟩ else (args V).v g (row n r) ⟨k.val - 128, by omega⟩ := by
  rw [pay6_apply]
  simp only [a_read, slab_apply c hV]
  split <;> rfl

theorem ublk_apply (hV : Handed V) (g : Fin 2) (n : Fin 8) (r : Fin 512) (k : Fin 128) :
    ublk c (arrs0 c V) (second g n) (ix2 r k) = (args V).u g (row n r) k := by
  unfold ublk
  rw [pay7_apply, rows_apply c hV, dif_pos k.isLt]

theorem hT_apply (hV : Handed V) (g : Fin 2) (n : Fin 8) (r : Fin 512) (j : Fin 32) :
    hT c (arrs0 c V) (second g n) (ix2 r j) = (args V).H g (row n r) j := by
  unfold hT
  rw [pay9_apply]
  refine congrArg (fun v => soft v j) (funext fun j => ?_)
  unfold sc score
  refine congrArg (· * _) (Finset.sum_congr rfl fun k _ => ?_)
  rw [z_read]
  exact congrArg (· * _) (ublk_apply c hV g n r k)

/-- The two logits of a point's rows. -/
theorem out10_apply (hV : Handed V) (g : Fin 2) (n : Fin 8) (r : Fin 512) (k : Fin 2) :
    out10 c (arrs0 c V) (second g n) (ix3 0 r k) = if k.val < 1 then (args V).l1 g (row n r) else (args V).l2 g (row n r) := by
  unfold out10
  rw [pay11_apply, pay10_apply, s_read, hV.off]
  have eh : k0_pay9 (iblk c (arrs0 c V) 2 (second g n)) (slabAt c (arrs0 c V) (second g n)) (iblk c (arrs0 c V) 5 (second g n)) = hT c (arrs0 c V) (second g n) := rfl
  have eu : k0_pay7 (iblk c (arrs0 c V) 2 (second g n)) (slabAt c (arrs0 c V) (second g n)) = ublk c (arrs0 c V) (second g n) := rfl
  rw [eh, eu]
  simp only [hT_apply c hV, ublk_apply c hV, rows_apply c hV, z_read, d_read]
  split
  · rfl
  · refine congrArg (· + _) (Finset.sum_congr rfl fun x _ => ?_)
    rw [dif_neg (by show ¬ 128 + x.val < 128; omega)]
    exact congrArg (fun y => _ * (args V).v g (row n r) y) (Fin.ext (Nat.add_sub_cancel_left 128 x.val))

/-- The assignment of a point's rows, as stored. -/
theorem out9_apply (hV : Handed V) (g : Fin 2) (n : Fin 8) (r : Fin 512) (j : Fin 32) :
    out9 c (arrs0 c V) (second g n) (ix3 0 r j) = (args V).H g (row n r) j := by
  unfold out9
  rw [pay12_apply, hT_apply c hV]

end Cert.Value.Ker
-- ==== Proof.Value.Reals.lean ====
module

public import proofs.«01_k».proof.Proof.Value.Spec
public import Idealize.ShloMosaic.PureOps.Ideal
public import Idealize.ShloMosaic.Lib.Pointwise.Sums

@[expose] public section

set_option maxRecDepth 16384

noncomputable section

/-! With finite features, graphs, weights, biases and cluster centres, the cluster assignment is real and not negative. -/
namespace Cert.Value

open Idealize.ShloMosaic

/-- A value that is a real number. -/
def IsReal (x : EReal) : Prop := ∃ r : ℝ, x = (r : EReal)

/-- The sum of reals, as a value. -/
theorem coe_sum {ι : Type} (s : Finset ι) (f : ι → ℝ) : ((∑ i ∈ s, f i : ℝ) : EReal) = ∑ i ∈ s, (f i : EReal) := by
  induction s using Finset.cons_induction with
  | empty => rfl
  | cons a s ha ih => rw [Finset.sum_cons, Finset.sum_cons, EReal.coe_add, ih]

namespace IsReal

theorem coe (r : ℝ) : IsReal (r : EReal) := ⟨r, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem neg {x : EReal} (hx : IsReal x) : IsReal (-x) := by
  obtain ⟨a, rfl⟩ := hx; exact ⟨-a, (EReal.coe_neg a).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (max x y) := by
  rcases max_choice x y with h | h <;> rw [h] <;> assumption

theorem zero : IsReal 0 := ⟨0, rfl⟩

theorem sum {ι : Type} (s : Finset ι) (f : ι → EReal) (h : ∀ i, IsReal (f i)) : IsReal (∑ i ∈ s, f i) := by
  induction s using Finset.cons_induction with
  | empty => exact ⟨0, rfl⟩
  | cons a s ha ih => rw [Finset.sum_cons]; exact (h a).add ih

theorem exp {x : EReal} (hx : IsReal x) : ∃ r : ℝ, 0 < r ∧ Ideal.exp x = (r : EReal) := by
  obtain ⟨a, rfl⟩ := hx; exact ⟨Real.exp a, Real.exp_pos a, Ideal.exp_coe a⟩

/-- A value between the infinities is real. -/
theorem of_abs_lt {x : EReal} (h : Max.max x (-x) < ⊤) : IsReal x := by
  induction x using EReal.rec with
  | bot => simp at h
  | coe r => exact ⟨r, rfl⟩
  | top => simp at h

end IsReal

/-- The largest of real scores is real. -/
theorem top_real (v : Fin 32 → EReal) (h : ∀ j, IsReal (v j)) : IsReal (top v) := by
  have key : ∀ s : Finset (Fin 32), s.Nonempty → IsReal (s.fold max ⊥ v) := by
    intro s hs
    induction hs using Finset.Nonempty.cons_induction with
    | singleton a => rw [Finset.fold_singleton]; rw [max_eq_left bot_le]; exact h a
    | cons a s ha hs ih => rw [Finset.fold_cons]; exact (h a).max ih
  exact key _ Finset.univ_nonempty

/-- A softmax of real scores is real and not negative. -/
theorem soft_real (v : Fin 32 → EReal) (h : ∀ j, IsReal (v j)) (j : Fin 32) : ∃ r : ℝ, 0 ≤ r ∧ soft v j = (r : EReal) := by
  choose e he e' using fun l => ((h l).sub (top_real v h)).exp
  have es : ∑ l, Ideal.exp (v l - top v) = ((∑ l, e l : ℝ) : EReal) := by
    rw [coe_sum]; exact Finset.sum_congr rfl fun l _ => e' l
  have hp : 0 < ∑ l, e l := Finset.sum_pos (fun l _ => he l) Finset.univ_nonempty
  unfold soft
  rw [es, e' j, Ideal.div_coe hp.ne', ← EReal.coe_mul]
  exact ⟨_, mul_nonneg (he j).le (by positivity), rfl⟩

/-- softplus of a real is real. -/
theorem sp_real {x : EReal} (h : IsReal x) : IsReal (sp x) := by
  obtain ⟨r, hr, e⟩ := (h.max h.neg).neg.exp
  unfold sp
  rw [e]
  refine (h.max .zero).add ?_
  refine ⟨Real.log (1 + r), ?_⟩
  unfold Ideal.log1p
  rw [show (1 : EReal) + (r : EReal) = ((1 + r : ℝ) : EReal) from (EReal.coe_add 1 r).symm, Ideal.log_coe, if_neg (by linarith)]

/-- The arguments the assignment depends on are real. -/
structure Args.Finite (a : Args) : Prop where
  X : ∀ g n k, IsReal (a.X g n k)
  G : ∀ g n k, IsReal (a.G g n k)
  W : ∀ g i k, IsReal (a.W g i k)
  b : ∀ g k, IsReal (a.b g k)
  Z : ∀ g j k, IsReal (a.Z g j k)

variable {a : Args} (h : a.Finite)
include h

theorem u_real (g : Fin 2) (n : Fin 4096) (k : Fin 128) : IsReal (a.u g n k) :=
  IsReal.max (.sum _ _ fun i => (h.G g n i).mul (IsReal.add (.sum _ _ fun j => (h.X g i j).mul (h.W g j k)) (h.b g k))) .zero

theorem H_real (g : Fin 2) (n : Fin 4096) (j : Fin 32) : ∃ r : ℝ, 0 ≤ r ∧ a.H g n j = (r : EReal) :=
  soft_real _ (fun j => IsReal.mul (.sum _ _ fun k => (u_real h g n k).mul (h.Z g j k)) (.coe _)) j

theorem sq_real (g : Fin 2) (n : Fin 4096) : IsReal (a.sq g n) :=
  sp_real (IsReal.neg (.sum _ _ fun j => by obtain ⟨r, _, e⟩ := H_real h g n j; rw [e]; exact (IsReal.coe r).mul (.coe r)))

omit h in
/-- The mean of a graph taken block by block. -/
theorem mean_blocks (s : Fin 4096 → EReal) (hs : ∀ m, IsReal (s m)) :
    ∑ n : Fin 8, Ideal.div (-∑ r : Fin 512, -s ⟨n.val * 512 + r.val, by omega⟩) ((4096 : ℝ) : EReal) = -Ideal.div (∑ m, -s m) ((4096 : ℝ) : EReal) := by
  choose t ht using hs
  simp only [ht, ← EReal.coe_neg, ← coe_sum, Ideal.div_coe (show (4096 : ℝ) ≠ 0 by norm_num), ← EReal.coe_mul]
  refine congrArg _ ?_
  rw [Fin.sum_univ_tiles 8 512 rfl fun m => -t m, ← Finset.sum_mul, Finset.sum_neg_distrib]
  ring

end Cert.Value
-- ==== Proof.Value.KerSums.lean ====
module

public import proofs.«01_k».proof.Proof.Value.KerRows
public import proofs.«01_k».proof.Proof.Value.Reals

@[expose] public section

set_option maxRecDepth 16384

noncomputable section

/-! The first call's two running sums. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (c : Dev nD) {V : Vals Ideal}

/-- A running sum is a sum. -/
theorem running (s f : ℕ → EReal) (h0 : s 0 = f 0) (hs : ∀ k, s (k + 1) = s k + f (k + 1)) (n : ℕ) : s n = ∑ k ∈ Finset.range (n + 1), f k := by
  induction n with
  | zero => rw [h0, Finset.sum_range_one]
  | succ n ih => rw [hs, ih, Finset.sum_range_succ _ (n + 1)]

theorem osum_apply (hV : Handed V) (hf : (args V).Finite) : osumV c (arrs0 c V) 15 = (args V).om 0 + (args V).om 1 := by
  have e := running (osumV c (arrs0 c V)) (fun k => k0_pay13 (hT c (arrs0 c V) (pt (8 + k)))) rfl
    (fun k => by
      show k0_pay2 (k0_pay13 (hT c (arrs0 c V) (pt (9 + k)))) (osumV c (arrs0 c V) k) = _
      rw [pay2_apply, show 9 + k = 8 + (k + 1) by omega]) 15
  rw [e, Finset.sum_range, Fin.sum_univ_tiles 2 8 rfl, Fin.sum_univ_two]
  have block (g : Fin 2) (n : Fin 8) : k0_pay13 (hT c (arrs0 c V) (second g n)) =
      Ideal.div (-∑ r : Fin 512, -(args V).sq g ⟨n.val * 512 + r.val, by omega⟩) ((4096 : ℝ) : EReal) := by
    rw [pay13_apply]
    simp only [hT_apply c hV]
    rfl
  refine congrArg₂ (· + ·) ?_ ?_
  · exact (Finset.sum_congr rfl fun n _ => block 0 n).trans (mean_blocks _ (sq_real hf 0))
  · exact (Finset.sum_congr rfl fun n _ => block 1 n).trans (mean_blocks _ (sq_real hf 1))

/-- The rows of the first graph the last pass reads. -/
theorem u1At_apply (hV : Handed V) (n : Fin 8) (r : Fin 512) (k : Fin 128) : u1At c (arrs0 c V) (second 1 n) (ix2 r k) = (args V).u 0 (row n r) k := by
  have e : u1At c (arrs0 c V) (second 1 n) (ix2 r k) = u1V c (arrs0 c V) (ix2 (row n r) k) := by
    unfold u1At
    refine congrArg (u1V c (arrs0 c V)) (congrArg (fun m => ix2 m k) (Fin.ext ?_))
    show (8 + (1 * 8 + n.val)) % 24 % 8 * 512 + r.val = n.val * 512 + r.val
    omega
  have e' : u1V c (arrs0 c V) (ix2 (row n r) k) = k0_pay3 (ublk c (arrs0 c V) (second 0 n)) (ix2 r k) := by
    show k0_pay3 (ublk c (arrs0 c V) (pt (8 + (row n r).val / 512))) (ix2 ⟨(row n r).val % 512, _⟩ k) = _
    have e1 := row_div n r
    have e2 : (⟨(row n r).val % 512, Nat.mod_lt _ (by decide)⟩ : Fin 512) = r := Fin.ext (row_mod n r)
    have e3 : second 0 n = pt (8 + n.val) := by
      show pt (8 + (0 * 8 + n.val)) = _
      rw [Nat.zero_mul, Nat.zero_add]
    rw [e1, e2, e3]
  rw [e, e', pay3_apply, ublk_apply c hV]

theorem rsum_apply (hV : Handed V) : rsumV c (arrs0 c V) 7 = (args V).reg := by
  have e := running (rsumV c (arrs0 c V)) (fun k => k0_pay4 (ublk c (arrs0 c V) (pt (16 + k))) (u1At c (arrs0 c V) (pt (16 + k))) (iblk c (arrs0 c V) 8 (pt (16 + k)))) rfl
    (fun k => by
      show k0_pay5 (ublk c (arrs0 c V) (pt (17 + k))) (u1At c (arrs0 c V) (pt (17 + k))) (iblk c (arrs0 c V) 8 (pt (17 + k))) (rsumV c (arrs0 c V) k) = _
      rw [pay5_apply, show 17 + k = 16 + (k + 1) by omega]) 7
  rw [e, Finset.sum_range]
  unfold Args.reg
  rw [Fin.sum_univ_tiles 8 512 rfl]
  refine Finset.sum_congr rfl fun n _ => ?_
  have ep : (pt (16 + n.val) : Fin cfg0.N) = second 1 n := by
    show _ = pt (8 + (1 * 8 + n.val))
    rw [show 16 + n.val = 8 + (1 * 8 + n.val) by omega]
  show k0_pay4 (ublk c (arrs0 c V) (pt (16 + n.val))) (u1At c (arrs0 c V) (pt (16 + n.val))) (iblk c (arrs0 c V) 8 (pt (16 + n.val))) = _
  rw [ep, pay4_apply]
  simp only [u_read, u1At_apply c hV, ublk_apply c hV]
  rfl

end Cert.Value.Ker
-- ==== Proof.Value.KerArrays.lean ====
module

public import proofs.«01_k».proof.Proof.KernelIdeal.Run
public import proofs.«01_k».proof.Proof.Value.KerSums

@[expose] public section

set_option maxRecDepth 16384

noncomputable section

/-! What the first call leaves in its four results. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (c : Dev nD) {V X : Vals Ideal}

theorem index_h : ∀ (g : Fin 2) (n : Fin 8), win0_9.index (second g n) = ![g.val, n.val, 0] := by decide +kernel
theorem index_sc : ∀ (g : Fin 2) (n : Fin 8), win0_10.index (second g n) = ![g.val, n.val, 0] := by decide +kernel

/-- A plane of the results among their three. -/
abbrev plane (g : Fin 2) : Fin 3 := ⟨g.val, by omega⟩

theorem second_ge (g : Fin 2) (n : Fin 8) : 8 ≤ (second g n).val := by
  show 8 ≤ (8 + (g.val * 8 + n.val)) % 24
  omega

/-- A block of `H` that the second phase's point writes. -/
theorem h_block (hX : Left c V X) (g : Fin 2) (n : Fin 8) (r : Fin 512) (j : Fin 32) :
    X (Proc.tc.devRef main_call0_v7_0) (ix3 (plane g) (row n r) j) = out9 c (arrs0 c V) (second g n) (ix3 0 r j) := by
  obtain ⟨after, hL, hA⟩ := RDat.ArrAt.exists_exact_all hX.2
  have hl : after 9 (second g n) = out9 c (arrs0 c V) (second g n) :=
    Dat.toRRel_leaves (dat := dat0 c (arrs0 c V)) (fgt := fgt) (Rl := Rl c (arrs0 c V)) (w := 9) rfl (hL 9 (second g n) (second g n).isLt (flush0_9 _)) (second_ge g n)
  have e := ((rel0 c V).withAfter after).arrAt_emb_eq_flushed 9 (Window.hdisj_of_index_inj _ (by decide +kernel)) (second g n) (flush0_9 _) (ix3 0 r j)
  rw [← hA 9] at e
  have he : ((cfg0.win 9).blk (second g n)).view.emb (ix3 0 r j) = (ix3 (plane g) (row n r) j : S3x4096x32.Idx) := by
    blk_ext [index_h]
  refine (congrArg (X (Proc.tc.devRef main_call0_v7_0)) he.symm).trans (e.trans ?_)
  rw [← hl]
  blk_ext

/-- A block of the two score columns that the second phase's point writes. -/
theorem sc_block (hX : Left c V X) (g : Fin 2) (n : Fin 8) (r : Fin 512) (k : Fin 2) :
    X (Proc.tc.devRef main_call0_v7_1) (ix3 (plane g) (row n r) k) = out10 c (arrs0 c V) (second g n) (ix3 0 r k) := by
  obtain ⟨after, hL, hA⟩ := RDat.ArrAt.exists_exact_all hX.2
  have hl : after 10 (second g n) = out10 c (arrs0 c V) (second g n) :=
    Dat.toRRel_leaves (dat := dat0 c (arrs0 c V)) (fgt := fgt) (Rl := Rl c (arrs0 c V)) (w := 10) rfl (hL 10 (second g n) (second g n).isLt (flush0_10 _)) (second_ge g n)
  have e := ((rel0 c V).withAfter after).arrAt_emb_eq_flushed 10 (Window.hdisj_of_index_inj _ (by decide +kernel)) (second g n) (flush0_10 _) (ix3 0 r k)
  rw [← hA 10] at e
  have he : ((cfg0.win 10).blk (second g n)).view.emb (ix3 0 r k) = (ix3 (plane g) (row n r) k : S3x4096x2.Idx) := by
    blk_ext [index_sc]
  refine (congrArg (X (Proc.tc.devRef main_call0_v7_1)) he.symm).trans (e.trans ?_)
  rw [← hl]
  blk_ext

/-- The sum of the means, flushed once at the end. -/
theorem osum_block (hX : Left c V X) :
    X (Proc.tc.devRef main_call0_v7_2) (ix2 0 0) = osumV c (arrs0 c V) 15 := by
  obtain ⟨Y, hL, hj⟩ := RDat.ArrAt.emb_eq_of_wholeAt (hX.2 11) (t₀ := pt 23) (by decide +kernel)
  have hl : Y = fun _ => osumV c (arrs0 c V) 15 :=
    Dat.toRRel_leaves (dat := dat0 c (arrs0 c V)) (fgt := fgt) (Rl := Rl c (arrs0 c V)) (w := 11) rfl hL (by decide)
  refine (hj (ix2 0 0)).trans ?_
  subst hl
  rfl

/-- The sum of the two distances, flushed once at the end. -/
theorem rsum_block (hX : Left c V X) :
    X (Proc.tc.devRef main_call0_v7_3) (ix2 0 0) = rsumV c (arrs0 c V) 7 := by
  obtain ⟨Y, hL, hj⟩ := RDat.ArrAt.emb_eq_of_wholeAt (hX.2 12) (t₀ := pt 23) (by decide +kernel)
  have hl : Y = fun _ => rsumV c (arrs0 c V) 7 :=
    Dat.toRRel_leaves (dat := dat0 c (arrs0 c V)) (fgt := fgt) (Rl := Rl c (arrs0 c V)) (w := 12) rfl hL (by decide)
  refine (hj (ix2 0 0)).trans ?_
  subst hl
  rfl

end Cert.Value.Ker
-- ==== Proof.Value.KerHost.lean ====
module

public import proofs.«01_k».proof.Proof.KernelIdeal.Kept
public import proofs.«01_k».proof.Proof.Value.KerRows

@[expose] public section

set_option maxRecDepth 16384

noncomputable section

/-! The kernel's two host stretches: what the first hands the first call, and what the last makes of the calls' results. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (m : (ℓ : Loc nD τ sig) → Buf (Elt Ideal) ℓ) (c : Dev nD)

theorem bias_word (V : Vals Ideal) : StableHlo.after hostOps0 V (Proc.tc.devRef main_call0_v6)
    = broadcastInDim S2x1x128 ![0, 2] bcast_S2x128_S2x1x128_0_2 (V (Proc.tc.devRef main_arg11)) := by
  after_results
  rfl

theorem off_word (V : Vals Ideal) : StableHlo.after hostOps0 V (Proc.tc.devRef main_call0_v5)
    = broadcastInDim S1x4096x2 ![1, 2] bcast_S4096x2_S1x4096x2_1_2 (concatenate S4096x2 1
        [⟨S4096x1, broadcastInDim S4096x1 ![0] bcast_S4096_S4096x1_0 (shapeCast S4096 (V (Proc.tc.devRef main_arg8)) shapeCasts_S1x4096_S4096)⟩,
         ⟨S4096x1, broadcastInDim S4096x1 ![0] bcast_S4096_S4096x1_0 (shapeCast S4096 (V (Proc.tc.devRef main_arg9)) shapeCasts_S1x4096_S4096)⟩]
        concatenates_S4096x1_S4096x1_S4096x2_d1) := by
  after_results
  rfl

/-- The first host stretch hands on the bias and the two offsets. -/
theorem handed : Handed (V1 m c) where
  bias g k := by
    rw [V1_of m c main_arg11 (by decide)]
    refine (congrFun (bias_word (V0 m c)) _).trans ?_
    pointwise
  off n k := by
    rw [V1_of m c main_arg8 (by decide), V1_of m c main_arg9 (by decide)]
    refine (congrFun (off_word (V0 m c)) _).trans ?_
    pointwise
    split <;> rfl

/-- The arguments that the first call finds are the program's. -/
theorem args_start : args (V1 m c) = args (V0 m c) := by
  unfold args
  rw [V1_of m c main_arg0 (by decide), V1_of m c main_arg1 (by decide), V1_of m c main_arg2 (by decide), V1_of m c main_arg3 (by decide),
    V1_of m c main_arg8 (by decide), V1_of m c main_arg9 (by decide), V1_of m c main_arg10 (by decide), V1_of m c main_arg11 (by decide),
    V1_of m c main_arg12 (by decide), V1_of m c main_arg13 (by decide), V1_of m c main_arg14 (by decide)]

theorem logits_word (V : Vals Ideal) : StableHlo.after hostOps2 V (Proc.tc.devRef main_v0_0)
    = broadcastInDim S2x1x8192 ![0, 2] bcast_S2x8192_S2x1x8192_0_2 (concatenate S2x8192 1
        [⟨S2x4096, shapeCast S2x4096 (extractStridedSlice S2x4096x1 ![0, 0, 0] (V (Proc.tc.devRef main_call0_v7_1)) slices_S3x4096x2_S2x4096x1_0_0_0) shapeCasts_S2x4096x1_S2x4096⟩,
         ⟨S2x4096, shapeCast S2x4096 (extractStridedSlice S2x4096x1 ![0, 0, 1] (V (Proc.tc.devRef main_call0_v7_1)) slices_S3x4096x2_S2x4096x1_0_0_1) shapeCasts_S2x4096x1_S2x4096⟩]
        concatenates_S2x4096_S2x4096_S2x8192_d1) := by
  after_results
  rfl

/-- The scores, one half from each column. -/
theorem logits_host (V : Vals Ideal) (g : Fin 2) (n : Fin 8192) : StableHlo.after hostOps2 V (Proc.tc.devRef main_v0_0) (ix3 g 0 n)
    = if h : n.val < 4096 then V (Proc.tc.devRef main_call0_v7_1) (ix3 ⟨g.val, by omega⟩ ⟨n.val, h⟩ 0)
      else V (Proc.tc.devRef main_call0_v7_1) (ix3 ⟨g.val, by omega⟩ ⟨n.val - 4096, by omega⟩ 1) := by
  refine (congrFun (logits_word V) _).trans ?_
  pointwise

theorem trace_host (V : Vals Ideal) : StableHlo.after hostOps2 V (Proc.tc.devRef main_v0_1) ix0 = V (Proc.tc.devRef main_call0_v8) (ix2 0 0) := by
  have e : StableHlo.after hostOps2 V (Proc.tc.devRef main_v0_1) = shapeCast S_ (V (Proc.tc.devRef main_call0_v8)) shapeCasts_S1x1_S_ := by
    after_results
    rfl
  refine (congrFun e _).trans ?_
  pointwise

theorem means_host (V : Vals Ideal) : StableHlo.after hostOps2 V (Proc.tc.devRef main_v0_2) ix0 = V (Proc.tc.devRef main_call0_v7_2) (ix2 0 0) := by
  have e : StableHlo.after hostOps2 V (Proc.tc.devRef main_v0_2) = shapeCast S_ (V (Proc.tc.devRef main_call0_v7_2)) shapeCasts_S1x1_S_ := by
    after_results
    rfl
  refine (congrFun e _).trans ?_
  pointwise

theorem reg_host (V : Vals Ideal) : StableHlo.after hostOps2 V (Proc.tc.devRef main_v0_3) ix0 = V (Proc.tc.devRef main_call0_v7_3) (ix2 0 0) := by
  have e : StableHlo.after hostOps2 V (Proc.tc.devRef main_v0_3) = shapeCast S_ (V (Proc.tc.devRef main_call0_v7_3)) shapeCasts_S1x1_S_ := by
    after_results
    rfl
  refine (congrFun e _).trans ?_
  pointwise

end Cert.Value.Ker
-- ==== Proof.Value.LapPays.lean ====
module

public import proofs.«01_k».proof.Proof.Gen.KernelIdeal.Skeleton
public import proofs.«01_k».proof.Proof.Value.Spec
public import proofs.«01_k».proof.Proof.Value.Consts

@[expose] public section

set_option maxRecDepth 16384

noncomputable section

/-! What the second call's values are at an index. -/
namespace Cert.Value.Lap

open Cert.KernelIdeal Cert.KernelIdeal.Gen
open Idealize.ShloMosaic Idealize.ShloMosaic.TcCoe Idealize.SL.Sem

variable (a : Vec Ideal S1x1024x4096 .f32) (d : Vec Ideal S1x1024x1024 .f32) (h : Vec Ideal S1x1024x32 .bf16)

/-- A block's product with the negated assignment. -/
def neg (j : Fin 32) (m : Fin 4096) : EReal := ∑ x : Fin 1024, -h (ix3 0 x j) * a (ix3 0 x m)

/-- The diagonal's row sum, a row at a time. -/
theorem pay9_apply (q : Fin 1024) : k1_pay9 a d (ix2 q 0) = ∑ x, a (ix3 0 q x) - d (ix3 0 q q) + d (ix3 0 q q) := by
  pointwise [k1_pay9, k1_pay8]
  simp only [select_eq_ofNat (show 1024 ≤ 4096 by omega), Finset.sum_ite_eq, Finset.mem_univ, if_true]

theorem pay12_apply (j : Fin 32) (q : Fin 1024) : k1_pay12 a d h (ix2 j q) = h (ix3 0 q j) * k1_pay9 a d (ix2 q 0) := by
  pointwise [k1_pay12, k1_pay10]

theorem pay13_apply (j : Fin 32) (m : Fin 4096) : k1_pay13 a h (ix2 j m) = neg a h j m := by
  pointwise [k1_pay13, k1_pay11, k1_pay10, k1_pay8, neg]
  simp only [zero_sub]

theorem pay14_apply (v : Vec Ideal S32x4096 .f32) (j : Fin 32) (m : Fin 4096) : k1_pay14 a h v (ix2 j m) = v (ix2 j m) + neg a h j m := by
  pointwise [k1_pay14, k1_pay11, k1_pay10, k1_pay8, neg]
  simp only [zero_sub]

theorem pay4_apply (j : Fin 32) (m : Fin 4096) : k1_pay4 (k1_pay8 a) h (ix2 j m) = neg a h j m := by
  pointwise [k1_pay4, k1_pay3, k1_pay2, k1_pay8, neg]
  simp only [zero_sub]

theorem pay5_apply (v : Vec Ideal S32x4096 .f32) (j : Fin 32) (m : Fin 4096) : k1_pay5 (k1_pay8 a) h v (ix2 j m) = v (ix2 j m) + neg a h j m := by
  pointwise [k1_pay5, k1_pay3, k1_pay2, k1_pay8, neg]
  simp only [zero_sub]

theorem pay1_apply (s v : Vec Ideal S32x1024 .f32) (j : Fin 32) (q : Fin 1024) : k1_pay1 s v (ix2 j q) = v (ix2 j q) + s (ix2 j q) := by
  pointwise [k1_pay1]

theorem pay6_apply (s : FVec Ideal S1024x1 .f32) (v : Vec Ideal S32x1024 .f32) (j : Fin 32) (q : Fin 1024) :
    k1_pay6 s h v (ix2 j q) = v (ix2 j q) + h (ix3 0 q j) * s (ix2 q 0) := by
  pointwise [k1_pay6, k1_pay2]

theorem pay7_apply (t : Vec Ideal S32x4096 .f32) (h : Vec Ideal S1x4096x32 .bf16) (t' : Vec Ideal S32x4096 .f32) (h' : Vec Ideal S1x4096x32 .bf16) :
    k1_pay7 t h t' h' = ∑ j, ∑ m, t (ix2 j m) * h (ix3 0 m j) + ∑ j, ∑ m, t' (ix2 j m) * h' (ix3 0 m j) := by
  pointwise [k1_pay7]
  simp only [select_eq_ofNat (show 32 ≤ 4096 by omega), Finset.sum_ite_eq, Finset.mem_univ, if_true]

end Cert.Value.Lap
-- ==== Proof.Value.LapMath.lean ====
module

public import proofs.«01_k».proof.Proof.Value.Reals

@[expose] public section

set_option maxRecDepth 16384

noncomputable section

/-! The product of the transposed assignment with the Laplacian, accumulated block of rows by block of rows. -/
namespace Cert.Value.Lap

open Idealize.ShloMosaic

variable (A : Fin 4096 → Fin 4096 → EReal) (h : Fin 4096 → Fin 32 → EReal)

/-- A row sum with the diagonal's entry taken off and put back. -/
def diag (m : Fin 4096) : EReal := ∑ x, A m x - A m m + A m m

/-- The block of rows `i`. -/
def part (j : Fin 32) (m : Fin 4096) (i : ℕ) : EReal := ∑ x : Fin 1024, -h ⟨(i * 1024 + x.val) % 4096, Nat.mod_lt _ (by decide)⟩ j * A ⟨(i * 1024 + x.val) % 4096, Nat.mod_lt _ (by decide)⟩ m

/-- An accumulator which adds the blocks one by one, and at block `i` to its own columns the diagonal's term. -/
theorem accumulated (s : ℕ → Fin 32 → Fin 4096 → EReal)
    (h0 : ∀ j m, s 0 j m = part A h j m 0 + if m.val / 1024 = 0 then h m j * diag A m else 0)
    (hs : ∀ n, n < 3 → ∀ j m, s (n + 1) j m = s n j m + part A h j m (n + 1) + if m.val / 1024 = n + 1 then h m j * diag A m else 0)
    (n : ℕ) (hn : n ≤ 3) (j : Fin 32) (m : Fin 4096) :
    s n j m = (∑ i ∈ Finset.range (n + 1), part A h j m i) + if m.val / 1024 ≤ n then h m j * diag A m else 0 := by
  induction n with
  | zero => rw [h0, Finset.sum_range_one]; simp only [Nat.le_zero]
  | succ n ih =>
    rw [hs n (by omega), ih (by omega), Finset.sum_range_succ _ (n + 1)]
    by_cases e : m.val / 1024 = n + 1
    · rw [if_neg (show ¬ m.val / 1024 ≤ n by omega), if_pos e, if_pos (show m.val / 1024 ≤ n + 1 by omega), add_zero]
    · rw [if_neg e, add_zero]
      by_cases e' : m.val / 1024 ≤ n
      · rw [if_pos e', if_pos (show m.val / 1024 ≤ n + 1 by omega)]; exact add_right_comm _ _ _
      · rw [if_neg e', if_neg (show ¬ m.val / 1024 ≤ n + 1 by omega), add_zero, add_zero]

/-- A sum with an entry `⊥` is `⊥`. -/
theorem sum_bot (f : Fin 4096 → EReal) (m : Fin 4096) (e : f m = ⊥) : ∑ x, f x = ⊥ := by
  rw [← Finset.add_sum_erase _ _ (Finset.mem_univ m), e, EReal.bot_add]

/-- The diagonal's term: taking the entry off and putting it back changes nothing under a factor which is not negative. -/
theorem diag_term (r : ℝ) (hr : 0 ≤ r) (a d : EReal) (hd : a = ⊥ → d = ⊥) :
    (r : EReal) * (d - a) = -(r : EReal) * a + (r : EReal) * (d - a + a) := by
  rcases hr.eq_or_lt with rfl | hp
  · simp
  induction a using EReal.rec with
  | bot =>
    rw [hd rfl]
    simp [sub_eq_add_neg, EReal.coe_mul_bot_of_pos hp]
  | coe a =>
    induction d using EReal.rec with
    | bot => simp [sub_eq_add_neg, EReal.coe_mul_bot_of_pos hp]
    | coe d => norm_cast; ring
    | top =>
      have e : (⊤ : EReal) - (a : EReal) = ⊤ := EReal.top_sub_coe a
      rw [e, EReal.top_add_coe, EReal.coe_mul_top_of_pos hp, ← EReal.coe_neg, ← EReal.coe_mul, EReal.coe_add_top]
  | top =>
    have e : d - (⊤ : EReal) = ⊥ := by rw [sub_eq_add_neg, EReal.neg_top, EReal.add_bot]
    rw [e, EReal.bot_add, EReal.coe_mul_bot_of_pos hp, EReal.add_bot]

/-- The accumulated product is the product with the Laplacian. -/
theorem accumulated_eq (hh : ∀ n j, ∃ r : ℝ, 0 ≤ r ∧ h n j = (r : EReal)) (j : Fin 32) (m : Fin 4096) :
    (∑ i ∈ Finset.range 4, part A h j m i) + h m j * diag A m = ∑ n, h n j * ((if n = m then ∑ i, A n i else 0) - A n m) := by
  have e : ∑ i ∈ Finset.range 4, part A h j m i = ∑ n, -h n j * A n m := by
    rw [Fin.sum_univ_tiles 4 1024 rfl, Finset.sum_range]
    refine Finset.sum_congr rfl fun i _ => Finset.sum_congr rfl fun x _ => ?_
    have e1 : (⟨(i.val * 1024 + x.val) % 4096, Nat.mod_lt _ (by decide)⟩ : Fin 4096) = ⟨i.val * 1024 + x.val, by omega⟩ := Fin.ext (Nat.mod_eq_of_lt (by omega))
    rw [e1]
  rw [e, ← Finset.add_sum_erase _ _ (Finset.mem_univ m), ← Finset.add_sum_erase _ (fun n => h n j * ((if n = m then ∑ i, A n i else 0) - A n m)) (Finset.mem_univ m), add_right_comm]
  refine congrArg₂ (· + ·) ?_ (Finset.sum_congr rfl fun n hn => ?_)
  · obtain ⟨r, hr, e⟩ := hh m j
    rw [if_pos rfl, e]
    exact (diag_term r hr (A m m) (∑ i, A m i) (sum_bot _ m)).symm
  · rw [if_neg (Finset.ne_of_mem_erase hn), zero_sub, mul_neg, EReal.neg_mul]

end Cert.Value.Lap
-- ==== Proof.Value.LapCall.lean ====
module

public import proofs.«01_k».proof.Proof.KernelIdeal.Launch0
public import proofs.«01_k».proof.Proof.Value.LapPays
public import proofs.«01_k».proof.Proof.Value.LapMath

@[expose] public section

set_option maxRecDepth 16384

noncomputable section

/-! What the second call leaves, of the arrays it reads. -/
namespace Cert.Value.Lap

open Cert.KernelIdeal Cert.KernelIdeal.Gen Cert.KernelIdeal.Run Cert.KernelIdeal.Data.Second Cert.KernelIdeal.Body.Second
open Idealize.ShloMosaic Idealize.ShloMosaic.TcCoe Idealize.ShloMosaic.Pipeline Idealize.SL.Sem

variable (c : Dev nD) (X : Vals Ideal)

/-- The second call's graph, and a graph's assignment as the call reads it. -/
def adj (n m : Fin 4096) : EReal := X (Proc.tc.devRef main_arg3) (ix3 0 n m)
def asg (g : Fin 3) (n : Fin 4096) (j : Fin 32) : EReal := X (Proc.tc.devRef main_call0_v7_0) (ix3 g n j)

theorem index_adj : ∀ n : Fin 4, win1_0.index (pt n.val) = ![0, n.val, 0] := by decide +kernel
theorem index_asg : ∀ n : Fin 4, win1_1.index (pt n.val) = ![0, 0, 0] := by decide +kernel
theorem coords_pt : ∀ n : Fin 4, ((grid1.coords (pt n.val)) 0).val = n.val := by decide +kernel

/-- A block's row in the whole. -/
abbrev row (n : Fin 4) (r : Fin 1024) : Fin 4096 := ⟨(n.val * 1024 + r.val) % 4096, Nat.mod_lt _ (by decide)⟩
theorem row_val (n : Fin 4) (r : Fin 1024) : (row n r).val = n.val * 1024 + r.val := Nat.mod_eq_of_lt (by omega)

variable (n : Fin 4)

theorem adj_read (r : Fin 1024) (m : Fin 4096) : iblk c (arrs1 c X) 0 (pt n.val) (ix3 0 r m) = adj X (row n r) m := by
  have e := row_val n r
  unfold adj
  blk_ext [iblk, index_adj, e]

theorem asg_read (g : Fin 3) (m : Fin 4096) (j : Fin 32) : iblk c (arrs1 c X) 1 (pt n.val) (ix3 g m j) = asg X g m j := by
  unfold asg
  blk_ext [iblk, index_asg]

theorem diag_read (r : Fin 1024) (q : Fin 1024) : diagBlk (iblk c (arrs1 c X) 0 (pt n.val)) (grid1.coords (pt n.val)) (ix3 0 r q) = adj X (row n r) (row n q) := by
  rw [← adj_read c]
  have e := coords_pt n
  have e0 := congrFun (k1_off1_eq (grid1.coords (pt n.val))) 0
  have e1 := congrFun (k1_off1_eq (grid1.coords (pt n.val))) 1
  have e2 := congrFun (k1_off1_eq (grid1.coords (pt n.val))) 2
  have e3 := row_val n q
  refine congrArg (iblk c (arrs1 c X) 0 (pt n.val)) (funext fun a => Fin.ext ?_)
  match a with
  | ⟨0, _⟩ => show k1_off1 (grid1.coords (pt n.val)) 0 + 1 * 0 = 0; rw [e0]; rfl
  | ⟨1, _⟩ => show k1_off1 (grid1.coords (pt n.val)) 1 + 1 * r.val = r.val; rw [e1]; show 0 + 1 * r.val = r.val; omega
  | ⟨2, _⟩ => show k1_off1 (grid1.coords (pt n.val)) 2 + 1 * q.val = (row n q).val; rw [e2, e3]; show 1024 * (grid1.coords (pt n.val) 0).val + 1 * q.val = _; rw [e]; omega

theorem hrow0_read (r : Fin 1024) (j : Fin 32) : hrow0 (iblk c (arrs1 c X) 1 (pt n.val)) (grid1.coords (pt n.val)) (ix3 0 r j) = asg X 0 (row n r) j := by
  rw [← asg_read c X n]
  have e := coords_pt n
  have e0 := congrFun (k1_off2_eq (grid1.coords (pt n.val))) 0
  have e1 := congrFun (k1_off2_eq (grid1.coords (pt n.val))) 1
  have e2 := congrFun (k1_off2_eq (grid1.coords (pt n.val))) 2
  have e3 := row_val n r
  refine congrArg (iblk c (arrs1 c X) 1 (pt n.val)) (funext fun a => Fin.ext ?_)
  match a with
  | ⟨0, _⟩ => show k1_off2 (grid1.coords (pt n.val)) 0 + 1 * 0 = 0; rw [e0]; rfl
  | ⟨1, _⟩ => show k1_off2 (grid1.coords (pt n.val)) 1 + 1 * r.val = (row n r).val; rw [e1, e3]; show 1024 * (grid1.coords (pt n.val) 0).val + 1 * r.val = _; rw [e]; omega
  | ⟨2, _⟩ => show k1_off2 (grid1.coords (pt n.val)) 2 + 1 * j.val = j.val; rw [e2]; show 0 + 1 * j.val = j.val; omega

theorem hrow1_read (r : Fin 1024) (j : Fin 32) : hrow1 (iblk c (arrs1 c X) 1 (pt n.val)) (grid1.coords (pt n.val)) (ix3 0 r j) = asg X 1 (row n r) j := by
  rw [← asg_read c X n]
  have e := coords_pt n
  have e0 := congrFun (k1_off4_eq (grid1.coords (pt n.val))) 0
  have e1 := congrFun (k1_off4_eq (grid1.coords (pt n.val))) 1
  have e2 := congrFun (k1_off4_eq (grid1.coords (pt n.val))) 2
  have e3 := row_val n r
  refine congrArg (iblk c (arrs1 c X) 1 (pt n.val)) (funext fun a => Fin.ext ?_)
  match a with
  | ⟨0, _⟩ => show k1_off4 (grid1.coords (pt n.val)) 0 + 1 * 0 = 1; rw [e0]; rfl
  | ⟨1, _⟩ => show k1_off4 (grid1.coords (pt n.val)) 1 + 1 * r.val = (row n r).val; rw [e1, e3]; show 1024 * (grid1.coords (pt n.val) 0).val + 1 * r.val = _; rw [e]; omega
  | ⟨2, _⟩ => show k1_off4 (grid1.coords (pt n.val)) 2 + 1 * j.val = j.val; rw [e2]; show 0 + 1 * j.val = j.val; omega

theorem hall0_read (r : Fin 4096) (j : Fin 32) : hall0 (iblk c (arrs1 c X) 1 (pt n.val)) (ix3 0 r j) = asg X 0 r j := by
  rw [← asg_read c X n]
  refine congrArg (iblk c (arrs1 c X) 1 (pt n.val)) (funext fun a => Fin.ext ?_)
  match a with
  | ⟨0, _⟩ => rfl
  | ⟨1, _⟩ => show 0 + 1 * r.val = r.val; omega
  | ⟨2, _⟩ => show 0 + 1 * j.val = j.val; omega

theorem hall1_read (r : Fin 4096) (j : Fin 32) : hall1 (iblk c (arrs1 c X) 1 (pt n.val)) (ix3 0 r j) = asg X 1 r j := by
  rw [← asg_read c X n]
  refine congrArg (iblk c (arrs1 c X) 1 (pt n.val)) (funext fun a => Fin.ext ?_)
  match a with
  | ⟨0, _⟩ => rfl
  | ⟨1, _⟩ => show 0 + 1 * r.val = r.val; omega
  | ⟨2, _⟩ => show 0 + 1 * j.val = j.val; omega

theorem neg_top (j : Fin 32) (m : Fin 4096) : neg (iblk c (arrs1 c X) 0 (pt n.val)) (hrow0 (iblk c (arrs1 c X) 1 (pt n.val)) (grid1.coords (pt n.val))) j m
    = part (adj X) (asg X 0) j m n.val := by
  unfold neg part
  simp only [adj_read, hrow0_read]

theorem neg_bot (j : Fin 32) (m : Fin 4096) : neg (iblk c (arrs1 c X) 0 (pt n.val)) (hrow1 (iblk c (arrs1 c X) 1 (pt n.val)) (grid1.coords (pt n.val))) j m
    = part (adj X) (asg X 1) j m n.val := by
  unfold neg part
  simp only [adj_read, hrow1_read]

theorem diag_blk (q : Fin 1024) : k1_pay9 (iblk c (arrs1 c X) 0 (pt n.val)) (diagBlk (iblk c (arrs1 c X) 0 (pt n.val)) (grid1.coords (pt n.val))) (ix2 q 0)
    = diag (adj X) (row n q) := by
  rw [pay9_apply]
  simp only [adj_read, diag_read]
  rfl

/-- A column's place in its block. -/
theorem row_of (m : Fin 4096) (hm : m.val / 1024 = n.val) : row n ⟨m.val % 1024, Nat.mod_lt _ (by decide)⟩ = m := by
  apply Fin.ext
  rw [row_val]
  show n.val * 1024 + m.val % 1024 = m.val
  omega

/-- A half with the point's columns brought up by the diagonal's term. -/
theorem cols_at (w : Vec Ideal S32x4096 .f32) (j : Fin 32) (m : Fin 4096) (hm : m.val / 1024 = n.val) :
    cols (grid1.coords (pt n.val)) w (ix2 j ⟨m.val % 1024, Nat.mod_lt _ (by decide)⟩) = w (ix2 j m) := by
  unfold cols
  refine congrArg w (congrArg (fun m => ix2 j m) (Fin.ext ?_))
  show 1024 * (grid1.coords (pt n.val) 0).val + m.val % 1024 = m.val
  rw [coords_pt]
  omega

theorem topNew_apply (w : Vec Ideal S32x4096 .f32) (j : Fin 32) (m : Fin 4096) :
    topNew (grid1.coords (pt n.val)) (iblk c (arrs1 c X) 0 (pt n.val)) (iblk c (arrs1 c X) 1 (pt n.val)) w (ix2 j m)
      = w (ix2 j m) + if m.val / 1024 = n.val then asg X 0 m j * diag (adj X) m else 0 := by
  show (if m.val / 1024 = (grid1.coords (pt n.val) 0).val then k1_pay1 (F := Ideal) _ _ (ix2 j ⟨m.val % 1024, _⟩) else w (ix2 j m)) = _
  rw [coords_pt]
  by_cases e : m.val / 1024 = n.val
  · rw [if_pos e, if_pos e, pay1_apply, cols_at n w j m e, pay12_apply, diag_blk, hrow0_read, row_of n m e]
  · rw [if_neg e, if_neg e, add_zero]

theorem botNew_apply (w : Vec Ideal S32x4096 .f32) (j : Fin 32) (m : Fin 4096) :
    botNew (grid1.coords (pt n.val)) (iblk c (arrs1 c X) 0 (pt n.val)) (iblk c (arrs1 c X) 1 (pt n.val)) w (ix2 j m)
      = w (ix2 j m) + if m.val / 1024 = n.val then asg X 1 m j * diag (adj X) m else 0 := by
  show (if m.val / 1024 = (grid1.coords (pt n.val) 0).val then k1_pay6 (F := Ideal) _ _ _ (ix2 j ⟨m.val % 1024, _⟩) else w (ix2 j m)) = _
  rw [coords_pt]
  by_cases e : m.val / 1024 = n.val
  · rw [if_pos e, if_pos e, pay6_apply, cols_at n w j m e, diag_blk, hrow1_read, row_of n m e]
  · rw [if_neg e, if_neg e, add_zero]

variable (hh : ∀ g n j, ∃ r : ℝ, 0 ≤ r ∧ asg X g n j = (r : EReal))

theorem topV_apply (j : Fin 32) (m : Fin 4096) : topV c (arrs1 c X) 3 (ix2 j m) =
    (∑ i ∈ Finset.range 4, part (adj X) (asg X 0) j m i) + asg X 0 m j * diag (adj X) m := by
  rw [accumulated (adj X) (asg X 0) (fun n j m => topV c (arrs1 c X) n (ix2 j m))
    (fun j m => (topNew_apply c X 0 _ j m).trans (congrArg (· + _) ((pay13_apply _ _ j m).trans (neg_top c X 0 j m))))
    (fun n hn j m => (topNew_apply c X ⟨n + 1, by omega⟩ _ j m).trans
      (congrArg (· + _) ((pay14_apply _ _ _ j m).trans (congrArg (_ + ·) (neg_top c X ⟨n + 1, by omega⟩ j m))))) 3 le_rfl j m,
    if_pos (show m.val / 1024 ≤ 3 by omega)]

theorem botV_apply (j : Fin 32) (m : Fin 4096) : botV c (arrs1 c X) 3 (ix2 j m) =
    (∑ i ∈ Finset.range 4, part (adj X) (asg X 1) j m i) + asg X 1 m j * diag (adj X) m := by
  rw [accumulated (adj X) (asg X 1) (fun n j m => botV c (arrs1 c X) n (ix2 j m))
    (fun j m => (botNew_apply c X 0 _ j m).trans (congrArg (· + _) ((pay4_apply _ _ j m).trans (neg_bot c X 0 j m))))
    (fun n hn j m => (botNew_apply c X ⟨n + 1, by omega⟩ _ j m).trans
      (congrArg (· + _) ((pay5_apply _ _ _ j m).trans (congrArg (_ + ·) (neg_bot c X ⟨n + 1, by omega⟩ j m))))) 3 le_rfl j m,
    if_pos (show m.val / 1024 ≤ 3 by omega)]

/-- The trace of one assignment against a graph's Laplacian. -/
def trace (A : Fin 4096 → Fin 4096 → EReal) (h : Fin 4096 → Fin 32 → EReal) : EReal :=
  ∑ j, ∑ m, (∑ n, h n j * ((if n = m then ∑ i, A n i else 0) - A n m)) * h m j

theorem lsum_apply (h0 : ∀ n j, ∃ r : ℝ, 0 ≤ r ∧ asg X 0 n j = (r : EReal)) (h1 : ∀ n j, ∃ r : ℝ, 0 ≤ r ∧ asg X 1 n j = (r : EReal)) :
    lsumV c (arrs1 c X) = trace (adj X) (asg X 0) + trace (adj X) (asg X 1) := by
  unfold lsumV trace
  rw [pay7_apply]
  refine congrArg₂ (· + ·) (Finset.sum_congr rfl fun j _ => Finset.sum_congr rfl fun m _ => ?_) (Finset.sum_congr rfl fun j _ => Finset.sum_congr rfl fun m _ => ?_)
  · rw [topV_apply, accumulated_eq _ _ h0]
    exact congrArg (_ * ·) (hall0_read c X 3 m j)
  · rw [botV_apply, accumulated_eq _ _ h1]
    exact congrArg (_ * ·) (hall1_read c X 3 m j)

end Cert.Value.Lap
-- ==== Proof.Value.KerResults.lean ====
module

public import proofs.«01_k».proof.Proof.Value.KerArrays
public import proofs.«01_k».proof.Proof.Value.KerHost
public import proofs.«01_k».proof.Proof.Value.LapCall

@[expose] public section

set_option maxRecDepth 16384

noncomputable section

/-! The kernel's four results over any arguments whose features, graphs, weights, biases and centres are real. -/
namespace Cert.Value.Ker

open Cert.KernelIdeal Cert.KernelIdeal.Gen Cert.KernelIdeal.Data Cert.KernelIdeal.Run
open Idealize.ShloMosaic Idealize.ShloMosaic.TcCoe Idealize.ShloMosaic.Pipeline Idealize.SL.Sem

variable (m : (ℓ : Loc nD τ sig) → Buf (Elt Ideal) ℓ) (c : Dev nD) {X : Vals Ideal}

/-- The assignment that the first call leaves. -/
theorem h_all (hX : Mid m X c) (g : Fin 2) (n : Fin 4096) (j : Fin 32) :
    X (Proc.tc.devRef main_call0_v7_0) (ix3 (plane g) n j) = (args (V0 m c)).H g n j := by
  obtain ⟨b, r, rfl⟩ := exists_row n
  rw [← args_start]
  exact (h_block c hX g b r j).trans (out9_apply c (handed m c) g b r j)

/-- The two score columns that the first call leaves. -/
theorem sc_all (hX : Mid m X c) (g : Fin 2) (n : Fin 4096) (k : Fin 2) :
    X (Proc.tc.devRef main_call0_v7_1) (ix3 (plane g) n k) = if k.val < 1 then (args (V0 m c)).l1 g n else (args (V0 m c)).l2 g n := by
  obtain ⟨b, r, rfl⟩ := exists_row n
  rw [← args_start]
  exact (sc_block c hX g b r k).trans (out10_apply c (handed m c) g b r k)

/-- A buffer that the second call does not write is as the first left it. -/
theorem second_keeps (r : Ref sig .tc) (h1 : ∀ w, arrRef spec1 w = r → (cfg1.win w).isOut = false) :
    after1 c X (Proc.tc.devRef r) = X (Proc.tc.devRef r) :=
  afterRegion_keeps (Second.dat1 (U := UU) c (arrs1 c X)) X launch1.win.arr_inj (fun _ => rfl) r h1

/-- The scores. -/
theorem logits (hX : Mid m X c) (g : Fin 2) (n : Fin 8192) : finalV c X (Proc.tc.devRef main_v0_0) (ix3 g 0 n) = (args (V0 m c)).logit g n := by
  refine (logits_host (after1 c X) g n).trans ?_
  rw [second_keeps c main_call0_v7_1 (by decide)]
  unfold Args.logit
  split
  · exact (sc_all m c hX g _ 0).trans (if_pos (by decide))
  · exact (sc_all m c hX g _ 1).trans (if_neg (by decide))

/-- What the second call leaves in its result. -/
theorem lsum_block : after1 c X (Proc.tc.devRef main_call0_v8) (ix2 0 0) = Cert.KernelIdeal.Data.Second.lsumV c (arrs1 c X) := by
  refine (congrFun (afterRegion_arr (Second.dat1 (U := UU) c (arrs1 c X)) X launch1.win.arr_inj 2) (ix2 0 0)).trans ?_
  refine (Dat.arrAt_emb_eq_after_last (Second.dat1 (U := UU) c (arrs1 c X)) 2 (t₀ := Cert.KernelIdeal.Data.Second.pt 3) (by decide +kernel) (ix2 0 0)).trans ?_
  rfl

/-- The trace. -/
theorem trace (hX : Mid m X c) (hf : (args (V0 m c)).Finite) :
    finalV c X (Proc.tc.devRef main_v0_1) ix0 = (args (V0 m c)).tr 0 + (args (V0 m c)).tr 1 := by
  refine (trace_host (after1 c X)).trans ((lsum_block c).trans ?_)
  have h0 : Lap.asg X 0 = (args (V0 m c)).H 0 := funext fun n => funext fun j => h_all m c hX 0 n j
  have h1 : Lap.asg X 1 = (args (V0 m c)).H 1 := funext fun n => funext fun j => h_all m c hX 1 n j
  have hA : Lap.adj X = (args (V0 m c)).A := funext fun n => funext fun k =>
    congrFun ((hX.1 _ (by decide)).trans (V1_of m c main_arg3 (by decide))) (ix3 0 n k)
  rw [Lap.lsum_apply c X (fun n j => by rw [h0]; exact H_real hf 0 n j) (fun n j => by rw [h1]; exact H_real hf 1 n j), h0, h1, hA]
  rfl

/-- The sum of the two graphs' means. -/
theorem means (hX : Mid m X c) (hf : (args (V0 m c)).Finite) :
    finalV c X (Proc.tc.devRef main_v0_2) ix0 = (args (V0 m c)).om 0 + (args (V0 m c)).om 1 := by
  refine (means_host (after1 c X)).trans ?_
  rw [second_keeps c main_call0_v7_2 (by decide), ← args_start]
  exact (osum_block c hX).trans (osum_apply c (handed m c) (by rw [args_start]; exact hf))

/-- The two distances. -/
theorem reg (hX : Mid m X c) : finalV c X (Proc.tc.devRef main_v0_3) ix0 = (args (V0 m c)).reg := by
  refine (reg_host (after1 c X)).trans ?_
  rw [second_keeps c main_call0_v7_3 (by decide), ← args_start]
  exact (rsum_block c hX).trans (rsum_apply c (handed m c))

end Cert.Value.Ker
-- ==== Proof.Value.RefRows.lean ====
module

public import proofs.«01_k».proof.Proof.Gen.ReferenceIdeal.Run
public import proofs.«01_k».proof.Proof.Value.Spec
public import proofs.«01_k».proof.Proof.Value.Consts

@[expose] public section

set_option maxRecDepth 16384

noncomputable section

/-! The reference's intermediate arrays, at an index, are the problem's mathematics. -/
namespace Cert.Value.Ref

open Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal))

/-- The reference's arguments, by coordinates. -/
def args : Args where
  X g n k := V (Proc.tc.devRef main_arg0) (ix4 g 0 n k)
  Y g n k := V (Proc.tc.devRef main_arg2) (ix4 g 0 n k)
  G g n k := V (Proc.tc.devRef main_arg1) (ix4 g 0 n k)
  A n k := V (Proc.tc.devRef main_arg3) (ix3 0 n k)
  s1 n := V (Proc.tc.devRef main_arg8) (ix2 0 n)
  s2 n := V (Proc.tc.devRef main_arg9) (ix2 0 n)
  W g i k := V (Proc.tc.devRef main_arg10) (ix3 g i k)
  b g k := V (Proc.tc.devRef main_arg11) (ix2 g k)
  Z g j k := V (Proc.tc.devRef main_arg12) (ix4 g 0 j k)
  U n k := V (Proc.tc.devRef main_arg13) (ix3 0 n k)
  D i k := V (Proc.tc.devRef main_arg14) (ix2 i k)

/-- The largest of a row, as the reference folds it. -/
theorem foldRow (f : S4096x32.Idx → EReal) (r : Fin 4096) :
    Finset.fold max ⊥ f (Finset.univ.filter fun i => reducesTo_S4096x32_S4096_d1.drop i = ix1 r) = top fun k => f (ix2 r k) :=
  Shape.ReducesTo.fold_fiber_r2_a1 (n0 := 4096) (n1 := 32) reducesTo_S4096x32_S4096_d1 (ix1 r) max ⊥ f

theorem u0 (r : Fin 4096) (k : Fin 128) : res_main_v21 V (ix3 0 r k) = (args V).u 0 r k := by
  pointwise! [res_main_v21, Args.u, agg, lin, args]

theorem u1 (r : Fin 4096) (k : Fin 128) : res_main_v106 V (ix3 0 r k) = (args V).u 1 r k := by
  pointwise! [res_main_v106, Args.u, agg, lin, args]

theorem z0 (j : Fin 32) (k : Fin 128) : res_main_v40 V (ix3 0 j k) = (args V).Z 0 j k := by
  pointwise! [res_main_v40, args]

theorem z1 (j : Fin 32) (k : Fin 128) : res_main_v125 V (ix3 0 j k) = (args V).Z 1 j k := by
  pointwise! [res_main_v125, args]

theorem score0 (r : Fin 4096) (j : Fin 32) : res_main_v48 V (ix2 r j) = score ((args V).u 0) ((args V).Z 0) r j := by
  pointwise [res_main_v48, score, u0, z0, ofBits_128]
  exact (congrArg (Ideal.div _) (by pointwise [id, ofBits_128])).trans (div_sqrt_128 _)

theorem score1 (r : Fin 4096) (j : Fin 32) : res_main_v133 V (ix2 r j) = score ((args V).u 1) ((args V).Z 1) r j := by
  pointwise [res_main_v133, score, u1, z1, ofBits_128]
  exact (congrArg (Ideal.div _) (by pointwise [id, ofBits_128])).trans (div_sqrt_128 _)

theorem e0 (r : Fin 4096) (j : Fin 32) : res_main_v55 V (ix2 r j) = Ideal.exp (score ((args V).u 0) ((args V).Z 0) r j - top (score ((args V).u 0) ((args V).Z 0) r)) := by
  pointwise [res_main_v55, score0, ofBits_bot]
  exact congrArg (fun t => Ideal.exp (_ - t)) ((bot_sup_eq _).trans ((foldRow (res_main_v48 V) r).trans (congrArg top (funext fun k => score0 V r k))))

theorem e1 (r : Fin 4096) (j : Fin 32) : res_main_v140 V (ix2 r j) = Ideal.exp (score ((args V).u 1) ((args V).Z 1) r j - top (score ((args V).u 1) ((args V).Z 1) r)) := by
  pointwise [res_main_v140, score1, ofBits_bot]
  exact congrArg (fun t => Ideal.exp (_ - t)) ((bot_sup_eq _).trans ((foldRow (res_main_v133 V) r).trans (congrArg top (funext fun k => score1 V r k))))

theorem H0 (r : Fin 4096) (j : Fin 32) : res_main_v60 V (ix3 0 r j) = (args V).H 0 r j := by
  pointwise! [res_main_v60, e0, Args.H, soft]

theorem H1 (r : Fin 4096) (j : Fin 32) : res_main_v145 V (ix3 0 r j) = (args V).H 1 r j := by
  pointwise! [res_main_v145, e1, Args.H, soft]

theorem s0 (r : Fin 4096) (k : Fin 128) : res_main_v64 V (ix3 0 r k) = ∑ j, (args V).H 0 r j * (args V).Z 0 j k := by
  pointwise! [res_main_v64, H0, z0]

theorem s1 (r : Fin 4096) (k : Fin 128) : res_main_v149 V (ix3 0 r k) = ∑ j, (args V).H 1 r j * (args V).Z 1 j k := by
  pointwise! [res_main_v149, H1, z1]

theorem nq0 (r : Fin 4096) : res_main_call4_v0 V (ix1 r) = -(args V).q 0 r := by
  pointwise! [res_main_call4_v0, H0, Args.q]

theorem nq1 (r : Fin 4096) : res_main_call8_v0 V (ix1 r) = -(args V).q 1 r := by
  pointwise! [res_main_call8_v0, H1, Args.q]

theorem lap (r k : Fin 4096) : res_main_v4 V (ix2 r k) = (args V).lap r k := by
  pointwise [res_main_v4]
  rw [select_eq_ofNat' le_rfl]
  rfl

theorem half (r : Fin 4096) (k : Fin 128) : res_main_v180 V (ix3 0 r k) = (args V).U r k - ((args V).u 0 r k + (args V).u 1 r k) * ((1 / 2 : ℝ) : EReal) := by
  pointwise [res_main_v180, ofBits_2, div_two, u0, u1]
  rw [Fin.sum_univ_one, Fin.sum_univ_one]
  rfl

/-! The results. -/

theorem logits0 (n : Fin 8192) : val4 V (Proc.tc.devRef main_v185) (ix3 0 0 n) = (args V).logit 0 n := by
  refine (congrFun (val4_main_v185 V) (ix3 0 0 n)).trans ?_
  pointwise [s0, s1, u0, u1]
  unfold Args.logit
  split <;> simp only [Args.l1, Args.l2, Args.proj, Args.v, agg, lin, args]

theorem logits1 (n : Fin 8192) : val4 V (Proc.tc.devRef main_v185) (ix3 1 0 n) = (args V).logit 1 n := by
  refine (congrFun (val4_main_v185 V) (ix3 1 0 n)).trans ?_
  pointwise [s0, s1, u0, u1]
  unfold Args.logit
  split <;> simp only [Args.l1, Args.l2, Args.proj, Args.v, agg, lin, args]

theorem trace : val4 V (Proc.tc.devRef main_v165) ix0 = (args V).tr 0 + (args V).tr 1 := by
  refine (congrFun (val4_main_v165 V) ix0).trans ?_
  pointwise [H0, H1, lap]
  simp only [select_eq_ofNat' (show 32 ≤ 4096 by omega), Finset.sum_ite_eq, Finset.mem_univ, if_true]
  rfl

theorem means : val4 V (Proc.tc.devRef main_v174) ix0 = (args V).om 0 + (args V).om 1 := by
  refine (congrFun (val4_main_v174 V) ix0).trans ?_
  pointwise [res_main_call4_call0_v3, res_main_call8_call0_v3, res_main_call4_call0_cst, res_main_call8_call0_cst, nq0, nq1, ofBits_4096]
  simp only [ne_eq, not_true_eq_false, if_false]
  rfl

theorem reg : val4 V (Proc.tc.devRef main_v182) ix0 = (args V).reg := by
  refine (congrFun (val4_main_v182 V) ix0).trans ?_
  pointwise [half]
  rw [Fin.sum_univ_one]
  simp only [half]
  rfl

end Cert.Value.Ref
-- ==== Proof.Value.Finite.lean ====
module

public import proofs.«01_k».proof.Defs
public import proofs.«01_k».proof.Proof.Value.Reals
public import proofs.«01_k».proof.Proof.Value.Consts
public import proofs.«01_k».proof.Proof.Value.KerRows
public import Idealize.ShloMosaic.Lib.ReduceAll

@[expose] public section

set_option maxRecDepth 16384

noncomputable section

/-! The precondition's meaning: five arguments hold real numbers. -/
namespace Cert.Value

open Idealize.ShloMosaic

instance preFacts : Cert.Pre_finite.Facts where
  bcast_S_S2x1x4096x512 := by decide
  reducesTo_S2x1x4096x512_S_d0_1_2_3 := by decide
  h_S_ := by decide
  bcast_S_S2x1x4096x4096 := by decide
  reducesTo_S2x1x4096x4096_S_d0_1_2_3 := by decide
  bcast_S_S2x512x128 := by decide
  reducesTo_S2x512x128_S_d0_1_2 := by decide
  bcast_S_S2x128 := by decide
  reducesTo_S2x128_S_d0_1 := by decide
  bcast_S_S2x1x32x128 := by decide
  reducesTo_S2x1x32x128_S_d0_1_2_3 := by decide

instance : Subsingleton Cert.Pre_finite.S_.Idx := ⟨fun a b => funext fun i => i.elim0⟩

/-- Two tests that hold together both hold. -/
theorem both {a b : BitVec 1} (h : IntOp.andi a b = 1#1) : a = 1#1 ∧ b = 1#1 := by
  revert a b; decide

/-- An array that passes the test "every absolute value is below infinity" holds reals. -/
theorem real_of_test {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : IsReal (x i) := by
  have h := Host.reduce_andi_all _ _ hr hu j e i
  have h2 : Ideal.cmp .olt (max (x i) (-(x i))) (FloatOps.ofBits (F := Ideal) .f32 0x7F800000#32) = 1#1 := h
  rw [show FloatOps.ofBits (F := Ideal) .f32 0x7F800000#32 = (⊤ : EReal) from ofBits_top] at h2
  refine IsReal.of_abs_lt ?_
  by_contra hn
  have h3 : BitVec.ofBool (decide (max (x i) (-(x i)) < (⊤ : EReal))) = 1#1 := h2
  rw [decide_eq_false hn] at h3
  exact absurd h3 (by decide)

/-- The precondition makes the arguments that the mathematics needs real. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (Ker.args (Cert.KernelIdeal.Gen.V0 m c)).Finite := by
  have e := congrFun (h c) ix0
  unfold Cert.Pre_finite.fn Cert.Pre_finite.fn_part1 at e
  dsimp only at e
  obtain ⟨e, eZ⟩ := both e
  obtain ⟨e, eb⟩ := both e
  obtain ⟨e, eW⟩ := both e
  obtain ⟨eX, eG⟩ := both e
  exact {
    X := fun g n k => real_of_test _ _ _ _ _ eX (ix4 g 0 n k)
    G := fun g n k => real_of_test _ _ _ _ _ eG (ix4 g 0 n k)
    W := fun g i k => real_of_test _ _ _ _ _ eW (ix3 g i k)
    b := fun g k => real_of_test _ _ _ _ _ eb (ix2 g k)
    Z := fun g j k => real_of_test _ _ _ _ _ eZ (ix4 g 0 j k) }

end Cert.Value
-- ==== Proof.Value.Equal.lean ====
module

public import proofs.«01_k».proof.Proof.Value.KerResults
public import proofs.«01_k».proof.Proof.Value.RefRows
public import proofs.«01_k».proof.Proof.Value.Finite

@[expose] public section

set_option maxRecDepth 16384

noncomputable section

/-! The two programs end with the same four results. -/
namespace Cert.Value

open Idealize.ShloMosaic Idealize.ShloMosaic.TcCoe Idealize.SL.Sem Idealize.ShloMosaic.StableHlo
open Cert.ReferenceIdeal.Value (val4_main_v185 val4_main_v165 val4_main_v174 val4_main_v182)

/-- The four results as arrays. -/
def outLogits (a : Args) : Cert.KernelIdeal.S2x1x8192.Idx → EReal := fun i => a.logit (i 0) (i 2)
def outTrace (a : Args) : Cert.KernelIdeal.S_.Idx → EReal := fun _ => a.tr 0 + a.tr 1
def outMeans (a : Args) : Cert.KernelIdeal.S_.Idx → EReal := fun _ => a.om 0 + a.om 1
def outReg (a : Args) : Cert.KernelIdeal.S_.Idx → EReal := fun _ => a.reg

/-- An array is known by its elements. -/
theorem eq_logits (f : Cert.KernelIdeal.S2x1x8192.Idx → EReal) (a : Args) (h : ∀ g n, f (ix3 g 0 n) = a.logit g n) : f = outLogits a := by
  funext i
  obtain ⟨g, z, n, rfl⟩ : ∃ (g : Fin 2) (z : Fin 1) (n : Fin 8192), i = ix3 g z n := ⟨_, _, _, eq_ix3 i⟩
  obtain rfl : z = 0 := Subsingleton.elim _ _
  exact h g n

theorem eq_scalar (f : Cert.KernelIdeal.S_.Idx → EReal) (x : EReal) (h : f ix0 = x) : f = fun _ => x := by
  funext i
  rw [← ix0_eta i]
  exact h

section Kernel

open Cert.KernelIdeal Cert.KernelIdeal.Gen Cert.KernelIdeal.Run

variable (m : (ℓ : Loc nD τ sig) → Buf (Elt Ideal) ℓ)

/-- The kernel's arguments on a device. -/
def inputs (c : Dev nD) : Args := Ker.args (V0 m c)

/-- The kernel ends with the four results, and its arguments as they were. -/
theorem kernel_run (g : Dev nD → PrngReg) (hf : ∀ c, (inputs m c).Finite) :
    θ_run defs (onTc (τ := τ) (main (F := Ideal))) ⟨m, fun _ => 0, g⟩ (fun r => ∀ c : Dev nD,
      r.2.mem ((c.tc : Thread nD τ).loc main_v0_0) = outLogits (inputs m c)
      ∧ r.2.mem ((c.tc : Thread nD τ).loc main_v0_1) = outTrace (inputs m c)
      ∧ r.2.mem ((c.tc : Thread nD τ).loc main_v0_2) = outMeans (inputs m c)
      ∧ r.2.mem ((c.tc : Thread nD τ).loc main_v0_3) = outReg (inputs m c)
      ∧ Kept m r.2 c) :=
  (θ_run defs _ _).mono (fun r h c => by
    obtain ⟨X, hX, hs⟩ := h.1 c
    exact ⟨(hs _ (mem_uc main_v0_0 (by decide))).trans (eq_logits _ _ fun g n => Ker.logits m c hX g n),
      (hs _ (mem_uc main_v0_1 (by decide))).trans (eq_scalar _ _ (Ker.trace m c hX (hf c))),
      (hs _ (mem_uc main_v0_2 (by decide))).trans (eq_scalar _ _ (Ker.means m c hX (hf c))),
      (hs _ (mem_uc main_v0_3 (by decide))).trans (eq_scalar _ _ (Ker.reg m c hX)),
      kept m c X hX r.2 hs⟩) (run m g)

end Kernel

section Reference

open Cert.ReferenceIdeal Cert.ReferenceIdeal.Gen Cert.ReferenceIdeal.Value

variable (V : Valuation τ sig (Elt Ideal))

theorem ref_logits (g : Fin 2) (n : Fin 8192) : val4 V (Proc.tc.devRef main_v185) (ix3 g 0 n) = (Ref.args V).logit g n := by
  match g with
  | ⟨0, _⟩ => exact Ref.logits0 V n
  | ⟨1, _⟩ => exact Ref.logits1 V n

variable (m : (ℓ : Loc nD τ sig) → Buf (Elt Ideal) ℓ)

/-- Every argument ends as it began. -/
def Keeps (s : MemSt nD τ sig (Elt Ideal)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)

/-- The reference ends with the four results, and its arguments as they were. -/
theorem reference_run (g : Dev nD → PrngReg) :
    θ_run defs (onTc (τ := τ) (main (F := Ideal))) ⟨m, fun _ => 0, g⟩ (fun r => ∀ c : Dev nD,
      r.2.mem ((c.tc : Thread nD τ).loc main_v185) = outLogits (Ref.args (launchContents m c))
      ∧ r.2.mem ((c.tc : Thread nD τ).loc main_v165) = outTrace (Ref.args (launchContents m c))
      ∧ r.2.mem ((c.tc : Thread nD τ).loc main_v174) = outMeans (Ref.args (launchContents m c))
      ∧ r.2.mem ((c.tc : Thread nD τ).loc main_v182) = outReg (Ref.args (launchContents m c))
      ∧ Keeps m r.2 c) := by
  refine (θ_run defs _ _).mono (fun r h c => ?_) (Cert.ReferenceIdeal.Value.run m g)
  obtain ⟨hl, ht, ho, hr, hk⟩ := h c
  exact ⟨(hl.trans (val4_main_v185 _).symm).trans (eq_logits _ _ fun g n => ref_logits _ g n),
    (ht.trans (val4_main_v165 _).symm).trans (eq_scalar _ _ (Ref.trace _)),
    (ho.trans (val4_main_v174 _).symm).trans (eq_scalar _ _ (Ref.means _)),
    (hr.trans (val4_main_v182 _).symm).trans (eq_scalar _ _ (Ref.reg _)), hk⟩

end Reference

/-- The reference's arguments are the kernel's where the two programs' memories agree on them. -/
theorem same_inputs (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : V (Proc.tc.devRef Cert.ReferenceIdeal.main_arg0) = m ((c.tc : Thread Cert.KernelIdeal.nD Cert.KernelIdeal.τ).loc Cert.KernelIdeal.main_arg0))
    (h1 : V (Proc.tc.devRef Cert.ReferenceIdeal.main_arg1) = m ((c.tc : Thread Cert.KernelIdeal.nD Cert.KernelIdeal.τ).loc Cert.KernelIdeal.main_arg1))
    (h2 : V (Proc.tc.devRef Cert.ReferenceIdeal.main_arg2) = m ((c.tc : Thread Cert.KernelIdeal.nD Cert.KernelIdeal.τ).loc Cert.KernelIdeal.main_arg2))
    (h3 : V (Proc.tc.devRef Cert.ReferenceIdeal.main_arg3) = m ((c.tc : Thread Cert.KernelIdeal.nD Cert.KernelIdeal.τ).loc Cert.KernelIdeal.main_arg3))
    (h8 : V (Proc.tc.devRef Cert.ReferenceIdeal.main_arg8) = m ((c.tc : Thread Cert.KernelIdeal.nD Cert.KernelIdeal.τ).loc Cert.KernelIdeal.main_arg8))
    (h9 : V (Proc.tc.devRef Cert.ReferenceIdeal.main_arg9) = m ((c.tc : Thread Cert.KernelIdeal.nD Cert.KernelIdeal.τ).loc Cert.KernelIdeal.main_arg9))
    (h10 : V (Proc.tc.devRef Cert.ReferenceIdeal.main_arg10) = m ((c.tc : Thread Cert.KernelIdeal.nD Cert.KernelIdeal.τ).loc Cert.KernelIdeal.main_arg10))
    (h11 : V (Proc.tc.devRef Cert.ReferenceIdeal.main_arg11) = m ((c.tc : Thread Cert.KernelIdeal.nD Cert.KernelIdeal.τ).loc Cert.KernelIdeal.main_arg11))
    (h12 : V (Proc.tc.devRef Cert.ReferenceIdeal.main_arg12) = m ((c.tc : Thread Cert.KernelIdeal.nD Cert.KernelIdeal.τ).loc Cert.KernelIdeal.main_arg12))
    (h13 : V (Proc.tc.devRef Cert.ReferenceIdeal.main_arg13) = m ((c.tc : Thread Cert.KernelIdeal.nD Cert.KernelIdeal.τ).loc Cert.KernelIdeal.main_arg13))
    (h14 : V (Proc.tc.devRef Cert.ReferenceIdeal.main_arg14) = m ((c.tc : Thread Cert.KernelIdeal.nD Cert.KernelIdeal.τ).loc Cert.KernelIdeal.main_arg14)) :
    Ref.args V = inputs m c := by
  unfold Ref.args
  rw [h0, h1, h2, h3, h8, h9, h10, h11, h12, h13, h14]
  rfl

/-- The value claim. -/
theorem equal : Cert.algebraic_KernelIdeal_ReferenceIdeal_pre_finite := by
  intro m g m' g' hpre hagree
  refine ⟨fun c => outLogits (inputs m c), fun c => outTrace (inputs m c), fun c => outMeans (inputs m c), fun c => outReg (inputs m c),
    kernel_run m g (finite_of_pre m hpre), ?_⟩
  refine (θ_run Cert.ReferenceIdeal.defs _ _).mono (fun r h c => ?_) (reference_run m' g')
  obtain ⟨h0, h1, h2, h3, -, -, -, -, h8, h9, h10, h11, h12, h13, h14⟩ := hagree c
  have e := same_inputs m (launchContents m' c) c h0 h1 h2 h3 h8 h9 h10 h11 h12 h13 h14
  obtain ⟨hl, ht, ho, hr, hk⟩ := h c
  exact ⟨hl.trans (congrArg outLogits e), ht.trans (congrArg outTrace e), ho.trans (congrArg outMeans e), hr.trans (congrArg outReg e), hk⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Kept
public import proofs.«01_k».proof.Proof.KernelIdeal.Kept
public import proofs.«01_k».proof.Proof.RefKept
public import proofs.«01_k».proof.Proof.Value.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Value.preFacts,
  fun m g _ => Cert.Kernel.Run.run_frame m g,
  fun m g _ => Cert.KernelIdeal.Run.run_frame m g,
  fun m g _ => Cert.KernelIdeal.Run.run_frame m g,
  Cert.RefRun.kept,
  fun m g _ => Cert.RefRun.kept m g trivial,
  IdealRules.named_const.statement Cert.KernelIdeal.κ "s" .f32 0x3DB504F3#32 (((Real.sqrt 128)⁻¹ : ℝ) : EReal) rfl,
  Cert.Value.equal⟩

end Cert.Proof

end
